-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)
  ∧ IdealRules.named_const.Statement Cert.KernelIdeal.κ "sqrt2" .f32 0x3FB504F3#32 ((Real.sqrt 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S2048x512 : Shape := ⟨2, ![2048, 512]⟩
abbrev S512 : Shape := ⟨1, ![512]⟩
abbrev S512x256 : Shape := ⟨2, ![512, 256]⟩
abbrev S256 : Shape := ⟨1, ![256]⟩
abbrev S256x16 : Shape := ⟨2, ![256, 16]⟩
abbrev S16 : Shape := ⟨1, ![16]⟩
abbrev S512x2048 : Shape := ⟨2, ![512, 2048]⟩
abbrev S2048 : Shape := ⟨1, ![2048]⟩
abbrev S1x16 : Shape := ⟨2, ![1, 16]⟩
abbrev S1x512 : Shape := ⟨2, ![1, 512]⟩
abbrev S1x256 : Shape := ⟨2, ![1, 256]⟩
abbrev S1x2048 : Shape := ⟨2, ![1, 2048]⟩
abbrev S16x16 : Shape := ⟨2, ![16, 16]⟩
abbrev S_ : Shape := ⟨0, ![]⟩
abbrev S16x16x128 : Shape := ⟨3, ![16, 16, 128]⟩
abbrev S16x2048 : Shape := ⟨2, ![16, 2048]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩
abbrev S1024x256 : Shape := ⟨2, ![1024, 256]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 34
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x16, .f32⟩
  | .hbm, ⟨8, _⟩ => ⟨S16, .f32⟩
  | .hbm, ⟨9, _⟩ => ⟨S2048x512, .f32⟩
  | .hbm, ⟨10, _⟩ => ⟨S512, .f32⟩
  | .hbm, ⟨11, _⟩ => ⟨S512x2048, .f32⟩
  | .hbm, ⟨12, _⟩ => ⟨S2048, .f32⟩
  | .hbm, ⟨13, _⟩ => ⟨S16, .f32⟩
  | .hbm, ⟨14, _⟩ => ⟨S16, .f32⟩
  | .hbm, ⟨15, _⟩ => ⟨S1x16, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x256, .f32⟩
  | .hbm, ⟨20, _⟩ => ⟨S1x512, .f32⟩
  | .hbm, ⟨21, _⟩ => ⟨S1x2048, .f32⟩
  | .hbm, ⟨22, _⟩ => ⟨S16x16, .i32⟩
  | .hbm, ⟨23, _⟩ => ⟨S16x16, .i32⟩
  | .hbm, ⟨24, _⟩ => ⟨S_, .i32⟩
  | .hbm, ⟨25, _⟩ => ⟨S16x16, .i32⟩
  | .hbm, ⟨26, _⟩ => ⟨S16x16, .i32⟩
  | .hbm, ⟨27, _⟩ => ⟨S16x16, .i1⟩
  | .hbm, ⟨28, _⟩ => ⟨S16x16, .bf16⟩
  | .hbm, ⟨29, _⟩ => ⟨S16x16x128, .bf16⟩
  | .hbm, ⟨30, _⟩ => ⟨S16x2048, .bf16⟩
  | .hbm, ⟨31, _⟩ => ⟨S2048x512, .bf16⟩
  | .hbm, ⟨32, _⟩ => ⟨S512x2048, .bf16⟩
  | .hbm, ⟨33, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S256x16, .f32⟩
  | .local _ .vmem, ⟨9, _⟩ => ⟨S1x16, .f32⟩
  | .local _ .vmem, ⟨10, _⟩ => ⟨S2048x512, .bf16⟩
  | .local _ .vmem, ⟨11, _⟩ => ⟨S1x512, .f32⟩
  | .local _ .vmem, ⟨12, _⟩ => ⟨S512x2048, .bf16⟩
  | .local _ .vmem, ⟨13, _⟩ => ⟨S1x2048, .f32⟩
  | .local _ .vmem, ⟨14, _⟩ => ⟨S16x2048, .bf16⟩
  | .local _ .vmem, ⟨15, _⟩ => ⟨S1024x2048, .f32⟩
  | .local _ .vmem, ⟨16, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "rsqrt2" => some (((Real.sqrt 2)⁻¹ : ℝ) : EReal)
  | "sqrt2" => some ((Real.sqrt 2 : ℝ) : EReal)
  | _ => none
-- ==== ReferenceIdeal.lean ====
abbrev S16384x2048 : Shape := ⟨2, ![16384, 2048]⟩
abbrev S2048x512 : Shape := ⟨2, ![2048, 512]⟩
abbrev S512 : Shape := ⟨1, ![512]⟩
abbrev S512x256 : Shape := ⟨2, ![512, 256]⟩
abbrev S256 : Shape := ⟨1, ![256]⟩
abbrev S256x16 : Shape := ⟨2, ![256, 16]⟩
abbrev S16 : Shape := ⟨1, ![16]⟩
abbrev S512x2048 : Shape := ⟨2, ![512, 2048]⟩
abbrev S2048 : Shape := ⟨1, ![2048]⟩
abbrev S16384x512 : Shape := ⟨2, ![16384, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S16384x256 : Shape := ⟨2, ![16384, 256]⟩
abbrev S1x256 : Shape := ⟨2, ![1, 256]⟩
abbrev S16384x16 : Shape := ⟨2, ![16384, 16]⟩
abbrev S1x16 : Shape := ⟨2, ![1, 16]⟩
abbrev S16384x16x1 : Shape := ⟨3, ![16384, 16, 1]⟩
abbrev S1 : Shape := ⟨1, ![1]⟩
abbrev S1x1x1 : Shape := ⟨3, ![1, 1, 1]⟩
abbrev S16384x16x2 : Shape := ⟨3, ![16384, 16, 2]⟩
abbrev S16384x16x128 : Shape := ⟨3, ![16384, 16, 128]⟩
abbrev S1x2048 : Shape := ⟨2, ![1, 2048]⟩

abbrev nBuf : Space → Nat
  | .hbm => 185
  | .vmem => 0
  | .smem => 0
  | _ => 0

abbrev hbmTy0_0 (i : Nat) : BufTy := match i % 128 with
  | 0 => ⟨S16384x2048, .f32⟩
  | 1 => ⟨S2048x512, .f32⟩
  | 2 => ⟨S512, .f32⟩
  | 3 => ⟨S512, .f32⟩
  | 4 => ⟨S512, .f32⟩
  | 5 => ⟨S512x256, .f32⟩
  | 6 => ⟨S256, .f32⟩
  | 7 => ⟨S256x16, .f32⟩
  | 8 => ⟨S16, .f32⟩
  | 9 => ⟨S2048x512, .f32⟩
  | 10 => ⟨S512, .f32⟩
  | 11 => ⟨S512x2048, .f32⟩
  | 12 => ⟨S2048, .f32⟩
  | 13 => ⟨S16, .f32⟩
  | 14 => ⟨S16384x512, .f32⟩
  | 15 => ⟨S1x512, .f32⟩
  | 16 => ⟨S16384x512, .f32⟩
  | 17 => ⟨S16384x512, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x512, .f32⟩
  | 25 => ⟨S16384x512, .f32⟩
  | 26 => ⟨S16384x512, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x512, .f32⟩
  | 34 => ⟨S16384x512, .f32⟩
  | 35 => ⟨S_, .f32⟩
  | 36 => ⟨S16384x1, .f32⟩
  | 37 => ⟨S16384x1, .f32⟩
  | 38 => ⟨S16384x1, .f32⟩
  | 39 => ⟨S16384x512, .f32⟩
  | 40 => ⟨S16384x512, .f32⟩
  | 41 => ⟨S1x512, .f32⟩
  | 42 => ⟨S16384x512, .f32⟩
  | 43 => ⟨S16384x512, .f32⟩
  | 44 => ⟨S1x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S_, .f32⟩
  | 52 => ⟨S_, .f32⟩
  | 53 => ⟨S16384x512, .f32⟩
  | 54 => ⟨S16384x512, .f32⟩
  | 55 => ⟨S16384x512, .f32⟩
  | 56 => ⟨S16384x512, .f32⟩
  | 57 => ⟨S16384x256, .f32⟩
  | 58 => ⟨S1x256, .f32⟩
  | 59 => ⟨S16384x256, .f32⟩
  | 60 => ⟨S16384x256, .f32⟩
  | 61 => ⟨S_, .f32⟩
  | 62 => ⟨S16384x256, .f32⟩
  | 63 => ⟨S16384x256, .f32⟩
  | 64 => ⟨S16384x256, .f32⟩
  | 65 => ⟨S_, .f32⟩
  | 66 => ⟨S_, .f32⟩
  | 67 => ⟨S16384x256, .f32⟩
  | 68 => ⟨S16384x256, .f32⟩
  | 69 => ⟨S16384x256, .f32⟩
  | 70 => ⟨S16384x256, .f32⟩
  | 71 => ⟨S16384x16, .f32⟩
  | 72 => ⟨S1x16, .f32⟩
  | 73 => ⟨S16384x16, .f32⟩
  | 74 => ⟨S16384x16, .f32⟩
  | 75 => ⟨S1x16, .f32⟩
  | 76 => ⟨S16384x16, .f32⟩
  | 77 => ⟨S16384x16, .f32⟩
  | 78 => ⟨S16384x16, .f32⟩
  | 79 => ⟨S16384x16, .f32⟩
  | 80 => ⟨S_, .f32⟩
  | 81 => ⟨S16384x16, .f32⟩
  | 82 => ⟨S16384x16, .f32⟩
  | 83 => ⟨S_, .f32⟩
  | 84 => ⟨S16384x16, .f32⟩
  | 85 => ⟨S16384x16, .f32⟩
  | 86 => ⟨S16384x16, .f32⟩
  | 87 => ⟨S16384x16, .i32⟩
  | 88 => ⟨S16384x16, .f32⟩
  | 89 => ⟨S16384x16, .i32⟩
  | 90 => ⟨S_, .i32⟩
  | 91 => ⟨S16384x16, .i32⟩
  | 92 => ⟨S16384x16, .i1⟩
  | 93 => ⟨S_, .i32⟩
  | 94 => ⟨S16384x16, .i32⟩
  | 95 => ⟨S16384x16, .i32⟩
  | 96 => ⟨S16384x16, .i32⟩
  | 97 => ⟨S16384x16x1, .i32⟩
  | 98 => ⟨S1, .i32⟩
  | 99 => ⟨S_, .i32⟩
  | 100 => ⟨S16384x16x1, .i32⟩
  | 101 => ⟨S16384x16x1, .i1⟩
  | 102 => ⟨S1x1x1, .i32⟩
  | 103 => ⟨S16384x16x1, .i32⟩
  | 104 => ⟨S16384x16x1, .i1⟩
  | 105 => ⟨S16384x16x1, .i1⟩
  | 106 => ⟨S_, .i1⟩
  | 107 => ⟨S16384x16, .i1⟩
  | 108 => ⟨S16384x16, .f32⟩
  | 109 => ⟨S_, .f32⟩
  | 110 => ⟨S16384x16, .f32⟩
  | 111 => ⟨S16384x16, .f32⟩
  | 112 => ⟨S16, .i32⟩
  | 113 => ⟨S_, .i32⟩
  | 114 => ⟨S16, .i32⟩
  | 115 => ⟨S16, .i1⟩
  | 116 => ⟨S_, .f32⟩
  | 117 => ⟨S16384x16, .f32⟩
  | 118 => ⟨S_, .i32⟩
  | 119 => ⟨S16, .i32⟩
  | 120 => ⟨S16, .i1⟩
  | 121 => ⟨S_, .f32⟩
  | 122 => ⟨S16384x16, .f32⟩
  | 123 => ⟨S16384x16, .i1⟩
  | 124 => ⟨S16384x16, .f32⟩
  | 125 => ⟨S_, .f32⟩
  | 126 => ⟨S16384x16, .f32⟩
  | 127 => ⟨S16384x16, .i1⟩
  | _ => ⟨S16384x2048, .f32⟩

abbrev hbmTy0_1 (i : Nat) : BufTy := match i % 128 with
  | 0 => ⟨S16384x16, .f32⟩
  | 1 => ⟨S16384x16, .i1⟩
  | 2 => ⟨S16384x16, .f32⟩
  | 3 => ⟨S_, .f32⟩
  | 4 => ⟨S16384x16, .f32⟩
  | 5 => ⟨S16384, .i32⟩
  | 6 => ⟨S16384x1, .i32⟩
  | 7 => ⟨S_, .i32⟩
  | 8 => ⟨S16384x1, .i32⟩
  | 9 => ⟨S16384x1, .i1⟩
  | 10 => ⟨S_, .i32⟩
  | 11 => ⟨S16384x1, .i32⟩
  | 12 => ⟨S16384x1, .i32⟩
  | 13 => ⟨S16384x1, .i32⟩
  | 14 => ⟨S_, .i32⟩
  | 15 => ⟨S16384x16, .i32⟩
  | 16 => ⟨S16384x16, .i1⟩
  | 17 => ⟨S_, .i32⟩
  | 18 => ⟨S16384x16, .i32⟩
  | 19 => ⟨S16384x16, .i32⟩
  | 20 => ⟨S16384x16, .i32⟩
  | 21 => ⟨S16384x16, .i32⟩
  | 22 => ⟨S16384x16x1, .i32⟩
  | 23 => ⟨S16384x16x1, .i32⟩
  | 24 => ⟨S16384x16x2, .i32⟩
  | 25 => ⟨S16384x16, .f32⟩
  | 26 => ⟨S16384x16, .f32⟩
  | 27 => ⟨S16384x16, .f32⟩
  | 28 => ⟨S16384x16x128, .f32⟩
  | 29 => ⟨S16384x2048, .f32⟩
  | 30 => ⟨S16384x512, .f32⟩
  | 31 => ⟨S1x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S_, .f32⟩
  | 39 => ⟨S_, .f32⟩
  | 40 => ⟨S16384x512, .f32⟩
  | 41 => ⟨S16384x512, .f32⟩
  | 42 => ⟨S16384x512, .f32⟩
  | 43 => ⟨S16384x512, .f32⟩
  | 44 => ⟨S16384x2048, .f32⟩
  | 45 => ⟨S1x2048, .f32⟩
  | 46 => ⟨S16384x2048, .f32⟩
  | 47 => ⟨S16384x2048, .f32⟩
  | 48 => ⟨S16384x2048, .f32⟩
  | 49 => ⟨S16384x2048, .f32⟩
  | 50 => ⟨S_, .f32⟩
  | 51 => ⟨S16384x2048, .f32⟩
  | 52 => ⟨S16384x2048, .f32⟩
  | 53 => ⟨S_, .f32⟩
  | 54 => ⟨S16384x2048, .f32⟩
  | 55 => ⟨S16384x2048, .f32⟩
  | 56 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call0_v0 : Ref sig .tc := ⟨.hbm, 87, rfl⟩
abbrev main_call0_v1_0 : Ref sig .tc := ⟨.hbm, 88, rfl⟩
abbrev main_v62 : Ref sig .tc := ⟨.hbm, 89, rfl⟩
abbrev main_call1_c : Ref sig .tc := ⟨.hbm, 90, rfl⟩
abbrev main_call1_v0 : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_c_1 : Ref sig .tc := ⟨.hbm, 98, rfl⟩
abbrev main_call1_c_2 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_3 : Ref sig .tc := ⟨.hbm, 106, rfl⟩
abbrev main_call1_v12 : Ref sig .tc := ⟨.hbm, 107, rfl⟩
abbrev main_call1_v13 : Ref sig .tc := ⟨.hbm, 108, rfl⟩
abbrev main_call1_cst : Ref sig .tc := ⟨.hbm, 109, rfl⟩
abbrev main_call1_v14 : Ref sig .tc := ⟨.hbm, 110, rfl⟩
abbrev main_v63 : Ref sig .tc := ⟨.hbm, 111, rfl⟩
abbrev main_v64 : Ref sig .tc := ⟨.hbm, 112, rfl⟩
abbrev main_c : Ref sig .tc := ⟨.hbm, 113, rfl⟩
abbrev main_v65 : Ref sig .tc := ⟨.hbm, 114, rfl⟩
abbrev main_v66 : Ref sig .tc := ⟨.hbm, 115, rfl⟩
abbrev main_cst_10 : Ref sig .tc := ⟨.hbm, 116, rfl⟩
abbrev main_v67 : Ref sig .tc := ⟨.hbm, 117, rfl⟩
abbrev main_c_11 : Ref sig .tc := ⟨.hbm, 118, rfl⟩
abbrev main_v68 : Ref sig .tc := ⟨.hbm, 119, rfl⟩
abbrev main_v69 : Ref sig .tc := ⟨.hbm, 120, rfl⟩
abbrev main_cst_12 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_13 : Ref sig .tc := ⟨.hbm, 125, rfl⟩
abbrev main_v73 : Ref sig .tc := ⟨.hbm, 126, rfl⟩
abbrev main_call2_v0 : Ref sig .tc := ⟨.hbm, 127, rfl⟩
abbrev main_v74 : Ref sig .tc := ⟨.hbm, 128, rfl⟩
abbrev main_call3_v0 : Ref sig .tc := ⟨.hbm, 129, rfl⟩
abbrev main_v75 : Ref sig .tc := ⟨.hbm, 130, rfl⟩
abbrev main_cst_14 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_c_15 : Ref sig .tc := ⟨.hbm, 135, rfl⟩
abbrev main_v79 : Ref sig .tc := ⟨.hbm, 136, rfl⟩
abbrev main_v80 : Ref sig .tc := ⟨.hbm, 137, rfl⟩
abbrev main_c_16 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_c_17 : Ref sig .tc := ⟨.hbm, 142, rfl⟩
abbrev main_v84 : Ref sig .tc := ⟨.hbm, 143, rfl⟩
abbrev main_v85 : Ref sig .tc := ⟨.hbm, 144, rfl⟩
abbrev main_c_18 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_19 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_20 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_21 : Ref sig .tc := ⟨.hbm, 178, rfl⟩
abbrev main_v116 : Ref sig .tc := ⟨.hbm, 179, rfl⟩
abbrev main_v117 : Ref sig .tc := ⟨.hbm, 180, rfl⟩
abbrev main_cst_22 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩

abbrev nD : Nat := 1
abbrev τ : Topo := Topo.v7x

variable {F : FTy → Type} [FloatOps F]
-- ==== Proof.Spec.lean ====
/-
  What one row of the gated layer is, as plain functions of numbers: neither program is named here.
-/
module

public import Idealize.ShloMosaic.PureOps.Ideal.Laws
public import Idealize.ShloMosaic.Lib.IdealHost
public import Idealize.ShloMosaic.Lib.ValueIdxCore

@[expose] public section

noncomputable section

open Idealize.ShloMosaic
open scoped BigOperators

namespace Cert.Spec

/-- Row `r` of a matrix. -/
abbrev row {M N : ℕ} (x : (⟨2, ![M, N]⟩ : Shape).Idx → EReal) (r : Fin M) : Fin N → EReal :=
  fun k => x (ValueIdx.ix2 r k)
/-- A matrix by its two coordinates. -/
abbrev mat {M N : ℕ} (x : (⟨2, ![M, N]⟩ : Shape).Idx → EReal) : Fin M → Fin N → EReal :=
  fun r k => x (ValueIdx.ix2 r k)
/-- A vector by its coordinate. -/
abbrev vec {N : ℕ} (x : (⟨1, ![N]⟩ : Shape).Idx → EReal) : Fin N → EReal :=
  fun k => x (ValueIdx.ix1 k)

/-- An index of a matrix is its two coordinates. -/
theorem idx2_of {M N : ℕ} (i : (⟨2, ![M, N]⟩ : Shape).Idx) (a : Fin M) (b : Fin N) (h0 : (i 0).val = a.val)
    (h1 : (i 1).val = b.val) : i = ValueIdx.ix2 a b := by
  funext d
  match d with
  | ⟨0, _⟩ => exact Fin.ext h0
  | ⟨1, _⟩ => exact Fin.ext h1

/-- An index of a vector is its coordinate. -/
theorem idx1_of {N : ℕ} (i : (⟨1, ![N]⟩ : Shape).Idx) (a : Fin N) (h0 : (i 0).val = a.val) : i = ValueIdx.ix1 a := by
  funext d
  match d with
  | ⟨0, _⟩ => exact Fin.ext h0

/-- The number 0.5, by its pattern. -/
abbrev half : EReal := Ideal.ofBits .f32 0x3F000000#32
/-- The row length 512, by its pattern. -/
abbrev width : EReal := Ideal.ofBits .f32 0x44000000#32
/-- The constant added to the variance, by its pattern. -/
abbrev eps : EReal := Ideal.ofBits .f32 0x3727C5AC#32

/-- A dense layer: a row times a matrix, plus a bias. -/
def dense {K N : ℕ} (x : Fin K → EReal) (W : Fin K → Fin N → EReal) (b : Fin N → EReal) (n : Fin N) : EReal :=
  (∑ k, x k * W k n) + b n

/-- The exact GELU of one number. -/
def gelu (v : EReal) : EReal :=
  half * v * (1 + Ideal.erf (v * (((Real.sqrt 2)⁻¹ : ℝ) : EReal)))

/-- The mean of a row of 512. -/
def mean (h : Fin 512 → EReal) : EReal := Ideal.div (∑ k, h k) width

/-- The variance of a row of 512. -/
def variance (h : Fin 512 → EReal) : EReal :=
  Ideal.div (∑ k, (h k - mean h) * (h k - mean h)) width

/-- The row normalised to mean zero and variance one, then scaled and shifted. -/
def norm (h g b : Fin 512 → EReal) (k : Fin 512) : EReal :=
  Ideal.div (h k - mean h) (Ideal.sqrt (variance h + eps)) * g k + b k

/-- Group `k` comes before group `j`: its number is larger, or equal with a smaller position. -/
def Beats (p : Fin 16 → EReal) (j k : Fin 16) : Prop := p j < p k ∨ (p k = p j ∧ k < j)

open Classical in
/-- How many groups come before group `j`. -/
def rank (p : Fin 16 → EReal) (j : Fin 16) : ℕ := ∑ k : Fin 16, if Beats p j k then 1 else 0

open Classical in
/-- Whether a group of rank `r` and number `q` is on: the first two always, the next six if `q` is over one half. -/
def activate (r : ℕ) (q : EReal) : EReal :=
  if r < 2 then 1 else if r < 8 then (if half < q then 1 else 0) else 0

/-- The group of an output column: 128 columns to a group. -/
def group (n : Fin 2048) : Fin 16 := ⟨n.val / 128, by omega⟩

/-- The router's hidden row. -/
def hidden (x : Fin 2048 → EReal) (W1 : Fin 2048 → Fin 512 → EReal) (b1 g be : Fin 512 → EReal) (k : Fin 512) : EReal :=
  gelu (norm (dense x W1 b1) g be k)

/-- The sixteen group numbers of a row. -/
def probs (x : Fin 2048 → EReal) (W1 : Fin 2048 → Fin 512 → EReal) (b1 g be : Fin 512 → EReal)
    (W2 : Fin 512 → Fin 256 → EReal) (b2 : Fin 256 → EReal) (W3 : Fin 256 → Fin 16 → EReal) (b3 : Fin 16 → EReal)
    (j : Fin 16) : EReal :=
  Ideal.logistic (dense (fun k => gelu (dense (hidden x W1 b1 g be) W2 b2 k)) W3 b3 j)

/-- The weights of a row's columns. -/
def weights (x : Fin 2048 → EReal) (D1 : Fin 2048 → Fin 512 → EReal) (db1 : Fin 512 → EReal)
    (D2 : Fin 512 → Fin 2048 → EReal) (db2 : Fin 2048 → EReal) (n : Fin 2048) : EReal :=
  Ideal.logistic (dense (fun k => gelu (dense x D1 db1 k)) D2 db2 n)

/-- One column of a row of the result: the column's group switched on or off, times the column's weight. -/
def gated (p : Fin 16 → EReal) (w : Fin 2048 → EReal) (n : Fin 2048) : EReal :=
  activate (rank p (group n)) (p (group n)) * w n

end Cert.Spec

end
-- ==== Proof.Scalars.lean ====
/-
  Facts about single numbers: the constants' values, the two spellings of the exact GELU, and the sigmoid as a hyperbolic
  tangent.
-/
module

public import proofs.«01_k».proof.Proof.Spec

@[expose] public section

noncomputable section

open Idealize.ShloMosaic

namespace Cert.Spec

/-- The pattern of 0.5 denotes one half. -/
theorem half_eq : half = ((1 / 2 : ℝ) : EReal) := by
  simp [half, Ideal.ofBits, Ideal.ieee, -EReal.coe_mul]; norm_num

/-- The root of one half is the inverse of the root of two. -/
theorem sqrt_half : Ideal.sqrt half = (((Real.sqrt 2)⁻¹ : ℝ) : EReal) := by
  rw [half_eq, Ideal.sqrt_coe, if_neg (by norm_num), one_div, Real.sqrt_inv]

/-- Dividing by the root of two is multiplying by its inverse. -/
theorem div_sqrt2 (v : EReal) :
    Ideal.div v ((Real.sqrt 2 : ℝ) : EReal) = v * (((Real.sqrt 2)⁻¹ : ℝ) : EReal) := by
  rw [Ideal.div_coe (by positivity), one_div]

/-- The GELU spelt with a division by the root of two. -/
theorem gelu_div (v : EReal) :
    half * v * (1 + Ideal.erf (Ideal.div v ((Real.sqrt 2 : ℝ) : EReal))) = gelu v := by
  rw [div_sqrt2, gelu]

/-- The GELU spelt with the complementary error function. -/
theorem gelu_erfc (v : EReal) :
    half * v * Ideal.erfc (-v * Ideal.sqrt half) = gelu v := by
  rw [sqrt_half, EReal.neg_mul, Ideal.erfc_neg, gelu]

/-- The sigmoid written as one half of a hyperbolic tangent plus one half. -/
theorem logistic_tanh (z : EReal) : half * Ideal.tanh (z * half) + half = Ideal.logistic z := by
  rw [half_eq]
  induction z with
  | bot =>
    rw [EReal.bot_mul_coe_of_pos (by norm_num), Ideal.tanh_bot, Ideal.logistic_bot, ← EReal.coe_one,
      ← EReal.coe_neg, ← EReal.coe_mul, ← EReal.coe_add]
    norm_num
  | top =>
    rw [EReal.top_mul_coe_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(r * (1 / 2))) * Real.exp (-(r * (1 / 2))) := by
      rw [← Real.exp_add]; congr 1; ring
    have e1 : Real.exp (r * (1 / 2)) * Real.exp (-(r * (1 / 2))) = 1 := by
      rw [← Real.exp_add]; simp
    rw [e]
    have p1 := Real.exp_pos (r * (1 / 2))
    have p2 := Real.exp_pos (-(r * (1 / 2)))
    generalize Real.exp (r * (1 / 2)) = a at *
    generalize Real.exp (-(r * (1 / 2))) = b at *
    have ha : a + b ≠ 0 := by positivity
    have hb : 1 + b * b ≠ 0 := by positivity
    field_simp
    linear_combination 2 * b * e1

/-- The sigmoid is a finite number. -/
theorem logistic_finite (z : EReal) : ∃ r : ℝ, Ideal.logistic z = (r : EReal) := by
  induction z with
  | bot => exact ⟨0, by simp⟩
  | top => exact ⟨1, by simp⟩
  | coe r => exact ⟨_, Ideal.logistic_coe r⟩

/-- Taking a finite number away and adding it back leaves the number it was taken from. -/
theorem sub_add_finite (a p : EReal) (h : ∃ r : ℝ, p = (r : EReal)) : a - p + p = a := by
  obtain ⟨r, rfl⟩ := h
  exact EReal.sub_add_cancel

end Cert.Spec

end
-- ==== Proof.RefRouter.lean ====
/-
  The reference's router and its column weights, read at an index.
-/
module

public import proofs.«01_k».proof.Proof.Scalars
public import proofs.«01_k».proof.Proof.Gen.ReferenceIdeal.Read

@[expose] public section

noncomputable section

open Idealize.ShloMosaic Idealize.ShloMosaic.ValueIdx Cert.ReferenceIdeal Cert.ReferenceIdeal.Read Cert.Spec

namespace Cert.RefValue

variable (x0 : S16384x2048.Idx → EReal) (x1 : S2048x512.Idx → EReal) (x2 x3 x4 : S512.Idx → EReal)
  (x5 : S512x256.Idx → EReal) (x6 : S256.Idx → EReal) (x7 : S256x16.Idx → EReal) (x8 x13 : S16.Idx → EReal)
  (x9 : S2048x512.Idx → EReal) (x10 : S512.Idx → EReal) (x11 : S512x2048.Idx → EReal) (x12 : S2048.Idx → EReal)

/-- The first dense layer. -/
theorem v3_at (r : Fin 16384) (k : Fin 512) :
    val_main_v3 (F := Ideal) x0 x1 x2 (ix2 r k) = dense (row x0 r) (mat x1) (vec x2) k := by
  have e1 : ∀ j, lidx_main_v0 (ix2 r k) j = ix2 r j := fun j => idx2_of _ _ _ rfl rfl
  have e2 : ∀ j, ridx_main_v0 (ix2 r k) j = ix2 j k := fun j => idx2_of _ _ _ rfl rfl
  have e3 : idx_main_v1 (idx_main_v2 (ix2 r k)) = ix1 k := idx1_of _ _ rfl
  rw [val_main_v3_apply, val_main_v0_apply, val_main_v2_apply, val_main_v1_apply, e3]
  simp only [e1, e2]
  rfl

/-- The row's mean. -/
theorem v7_at (r : Fin 16384) (z : Fin 1) :
    val_main_v7 (F := Ideal) x0 x1 x2 (ix2 r z) = mean (dense (row x0 r) (mat x1) (vec x2)) := by
  have e1 : ∀ k, idx_main_v4 (idx_main_v5 (ix2 r z)) k = ix2 r k := fun j => idx2_of _ _ _ rfl rfl
  rw [val_main_v7_apply, val_main_v5_apply, val_main_v4_apply, val_main_v6_apply, val_main_cst_0_apply, val_main_cst_apply]
  simp only [e1, v3_at, Ideal.hostDivf_def, Ideal.ofBits_def, Ideal.ofBits_zero_f32, zero_add]
  rfl

/-- The row's variance. -/
theorem v14_at (r : Fin 16384) (z : Fin 1) :
    val_main_v14 (F := Ideal) x0 x1 x2 (ix2 r z) = variance (dense (row x0 r) (mat x1) (vec x2)) := by
  have e1 : ∀ k, idx_main_v11 (idx_main_v12 (ix2 r z)) k = ix2 r k := fun j => idx2_of _ _ _ rfl rfl
  have e2 : ∀ k, idx_main_v8 (ix2 r k) = ix2 r 0 := fun j => idx2_of _ _ _ rfl rfl
  rw [val_main_v14_apply, val_main_v12_apply, val_main_v11_apply, val_main_v13_apply, val_main_cst_2_apply, val_main_cst_1_apply]
  simp only [e1, val_main_v10_apply, val_main_v9_apply, val_main_v8_apply, e2, v3_at, v7_at, Ideal.hostDivf_def,
    Ideal.ofBits_def, Ideal.ofBits_zero_f32, zero_add, Ideal.mulf_def, Ideal.subf_def]
  rfl

/-- The normalised row. -/
theorem v27_at (r : Fin 16384) (k : Fin 512) :
    val_main_v27 (F := Ideal) x0 x1 x2 x3 x4 (ix2 r k)
      = norm (dense (row x0 r) (mat x1) (vec x2)) (vec x3) (vec x4) k := by
  have e1 : idx_main_v22 (idx_main_v23 (ix2 r k)) = ix1 k := idx1_of _ _ rfl
  have e2 : idx_main_v25 (idx_main_v26 (ix2 r k)) = ix1 k := idx1_of _ _ rfl
  have e3 : idx_main_v15 (ix2 r k) = ix2 r 0 := idx2_of _ _ _ rfl rfl
  have e4 : idx_main_v20 (ix2 r k) = ix2 r 0 := idx2_of _ _ _ rfl rfl
  rw [val_main_v27_apply, val_main_v24_apply, val_main_v26_apply, val_main_v25_apply, val_main_v21_apply, val_main_v23_apply,
    val_main_v22_apply, val_main_v16_apply, val_main_v15_apply, val_main_v20_apply, val_main_v19_apply, val_main_v18_apply,
    val_main_v17_apply, val_main_cst_3_apply, e1, e2, e3, e4, v3_at, v7_at, v14_at]
  rfl

/-- The router's first hidden row. -/
theorem v35_at (r : Fin 16384) (k : Fin 512) :
    val_main_v35 (F := Ideal) x0 x1 x2 x3 x4 (ix2 r k) = hidden (row x0 r) (mat x1) (vec x2) (vec x3) (vec x4) k := by
  rw [val_main_v35_apply, val_main_v34_apply, val_main_v33_apply, val_main_v32_apply, val_main_v31_apply, val_main_cst_5_apply,
    val_main_v30_apply, val_main_v29_apply, val_main_v28_apply, val_main_cst_4_apply, v27_at]
  exact gelu_erfc _

/-- The router's second dense layer. -/
theorem v39_at (r : Fin 16384) (k : Fin 256) :
    val_main_v39 (F := Ideal) x0 x1 x2 x3 x4 x5 x6 (ix2 r k)
      = dense (hidden (row x0 r) (mat x1) (vec x2) (vec x3) (vec x4)) (mat x5) (vec x6) k := by
  have e1 : ∀ j, lidx_main_v36 (ix2 r k) j = ix2 r j := fun j => idx2_of _ _ _ rfl rfl
  have e2 : ∀ j, ridx_main_v36 (ix2 r k) j = ix2 j k := fun j => idx2_of _ _ _ rfl rfl
  have e3 : idx_main_v37 (idx_main_v38 (ix2 r k)) = ix1 k := idx1_of _ _ rfl
  rw [val_main_v39_apply, val_main_v36_apply, val_main_v38_apply, val_main_v37_apply, e3]
  simp only [e1, e2, v35_at]
  rfl

/-- The router's second hidden row. -/
theorem v47_at (r : Fin 16384) (k : Fin 256) :
    val_main_v47 (F := Ideal) x0 x1 x2 x3 x4 x5 x6 (ix2 r k)
      = gelu (dense (hidden (row x0 r) (mat x1) (vec x2) (vec x3) (vec x4)) (mat x5) (vec x6) k) := by
  rw [val_main_v47_apply, val_main_v46_apply, val_main_v45_apply, val_main_v44_apply, val_main_v43_apply, val_main_cst_7_apply,
    val_main_v42_apply, val_main_v41_apply, val_main_v40_apply, val_main_cst_6_apply, v39_at]
  exact gelu_erfc _

/-- The sixteen group numbers of row `r`. -/
abbrev groups (r : Fin 16384) : Fin 16 → EReal :=
  probs (row x0 r) (mat x1) (vec x2) (vec x3) (vec x4) (mat x5) (vec x6) (mat x7) fun j => vec x8 j + vec x13 j

/-- The router's sigmoid. -/
theorem v60_at (r : Fin 16384) (j : Fin 16) :
    val_main_v60 (F := Ideal) x0 x1 x2 x3 x4 x5 x6 x7 x8 x13 (ix2 r j) = groups x0 x1 x2 x3 x4 x5 x6 x7 x8 x13 r j := by
  have e1 : ∀ k, lidx_main_v48 (ix2 r j) k = ix2 r k := fun j => idx2_of _ _ _ rfl rfl
  have e2 : ∀ k, ridx_main_v48 (ix2 r j) k = ix2 k j := fun j => idx2_of _ _ _ rfl rfl
  have e3 : idx_main_v49 (idx_main_v50 (ix2 r j)) = ix1 j := idx1_of _ _ rfl
  have e4 : idx_main_v52 (idx_main_v53 (ix2 r j)) = ix1 j := idx1_of _ _ rfl
  have e : val_main_v54 (F := Ideal) x0 x1 x2 x3 x4 x5 x6 x7 x8 x13 (ix2 r j)
      = dense (fun k => gelu (dense (hidden (row x0 r) (mat x1) (vec x2) (vec x3) (vec x4)) (mat x5) (vec x6) k)) (mat x7)
          (fun j => vec x8 j + vec x13 j) j := by
    rw [val_main_v54_apply, val_main_v51_apply, val_main_v48_apply, val_main_v50_apply, val_main_v49_apply, val_main_v53_apply,
      val_main_v52_apply, e3, e4]
    simp only [e1, e2, v47_at]
    exact add_assoc _ _ _
  rw [val_main_v60_apply, val_main_v59_apply, val_main_cst_9_apply, val_main_v58_apply, val_main_v57_apply, val_main_cst_8_apply,
    val_main_v56_apply, val_main_v55_apply, e]
  simp only [Ideal.hostDivf_def, Ideal.ofBits_def, Ideal.ofBits_one_f32, Ideal.addf_def, Ideal.hostUnary_exp_def,
    Ideal.hostNegf_def, Ideal.negf_def]
  rfl

/-- The weights' hidden row. -/
theorem v109_at (r : Fin 16384) (k : Fin 512) :
    val_main_v109 (F := Ideal) x0 x9 x10 (ix2 r k) = gelu (dense (row x0 r) (mat x9) (vec x10) k) := by
  have e1 : ∀ j, lidx_main_v98 (ix2 r k) j = ix2 r j := fun j => idx2_of _ _ _ rfl rfl
  have e2 : ∀ j, ridx_main_v98 (ix2 r k) j = ix2 j k := fun j => idx2_of _ _ _ rfl rfl
  have e3 : idx_main_v99 (idx_main_v100 (ix2 r k)) = ix1 k := idx1_of _ _ rfl
  have e : val_main_v101 (F := Ideal) x0 x9 x10 (ix2 r k) = dense (row x0 r) (mat x9) (vec x10) k := by
    rw [val_main_v101_apply, val_main_v98_apply, val_main_v100_apply, val_main_v99_apply, e3]
    simp only [e1, e2]
    rfl
  rw [val_main_v109_apply, val_main_v108_apply, val_main_v107_apply, val_main_v106_apply, val_main_v105_apply,
    val_main_cst_20_apply, val_main_v104_apply, val_main_v103_apply, val_main_v102_apply, val_main_cst_19_apply, e]
  exact gelu_erfc _

/-- The weights of a row's columns. -/
theorem v119_at (r : Fin 16384) (n : Fin 2048) :
    val_main_v119 (F := Ideal) x0 x9 x10 x11 x12 (ix2 r n)
      = weights (row x0 r) (mat x9) (vec x10) (mat x11) (vec x12) n := by
  have e1 : ∀ j, lidx_main_v110 (ix2 r n) j = ix2 r j := fun j => idx2_of _ _ _ rfl rfl
  have e2 : ∀ j, ridx_main_v110 (ix2 r n) j = ix2 j n := fun j => idx2_of _ _ _ rfl rfl
  have e3 : idx_main_v111 (idx_main_v112 (ix2 r n)) = ix1 n := idx1_of _ _ rfl
  have e : val_main_v113 (F := Ideal) x0 x9 x10 x11 x12 (ix2 r n)
      = dense (fun k => gelu (dense (row x0 r) (mat x9) (vec x10) k)) (mat x11) (vec x12) n := by
    rw [val_main_v113_apply, val_main_v110_apply, val_main_v112_apply, val_main_v111_apply, e3]
    simp only [e1, e2, v109_at]
    rfl
  rw [val_main_v119_apply, val_main_v118_apply, val_main_cst_22_apply, val_main_v117_apply, val_main_v116_apply,
    val_main_cst_21_apply, val_main_v115_apply, val_main_v114_apply, e]
  simp only [Ideal.hostDivf_def, Ideal.ofBits_def, Ideal.ofBits_one_f32, Ideal.addf_def, Ideal.hostUnary_exp_def,
    Ideal.hostNegf_def, Ideal.negf_def]
  rfl

end Cert.RefValue

end
-- ==== Proof.Rank.lean ====
/-
  A stable sort of sixteen numbers, largest first, puts at position `i` the group that exactly `i` groups come before.
-/
module

public import proofs.«01_k».proof.Proof.Spec
public import Idealize.ShloMosaic.Lib.SortFacts
public import Idealize.ShloMosaic.Lib.SortPrefix

@[expose] public section

noncomputable section

open Idealize.ShloMosaic

namespace Cert.Spec

/-- On an increasing list a stable sort only asks whether a later position goes before an earlier one, so two relations
    that agree there sort it alike. -/
theorem stableSort_increasing {n : ℕ} (R R' : Fin n → Fin n → Bool) (l : List (Fin n)) (hl : l.Pairwise (· < ·))
    (h : ∀ a b : Fin n, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The sort's source positions are read off its list of positions. -/
theorem sortedFrom_of_positions {n : ℕ} {R R' : Fin n → Fin n → Bool} (e : sortPositions n R = sortPositions n R') :
    sortedFrom R = sortedFrom R' := by
  funext k
  unfold sortedFrom
  rw [List.get_of_eq e]
  rfl

/-- The order the sort realises: larger number first, equal numbers by position. -/
def lexBefore (p : Fin 16 → EReal) (k k' : Fin 16) : Bool :=
  decide (-p k < -p k') || (decide (-p k = -p k') && decide (k < k'))

/-- It is a strict total order. -/
theorem lexBefore_total (p : Fin 16 → EReal) : StrictTotalBefore (lexBefore p) :=
  StrictTotalBefore.of_key_then_position (fun a b : EReal => decide (a < b)) (fun k => -p k)
    (fun a => by simp) (fun a b c h1 h2 => by simp only [decide_eq_true_eq] at *; exact h1.trans h2)
    (fun a b => by simp only [decide_eq_true_eq]; exact lt_trichotomy a b)

/-- In words of `Beats`. -/
theorem lexBefore_iff (p : Fin 16 → EReal) (k j : Fin 16) : lexBefore p k j = true ↔ Beats p j k := by
  simp [lexBefore, Beats, EReal.neg_lt_neg_iff]

/-- Sorting by the negated numbers alone is sorting by that order, the sort being stable. -/
theorem sortedFrom_lex (p : Fin 16 → EReal) (B : Fin 16 → Fin 16 → Bool) (hB : ∀ k k', B k k' = decide (-p k < -p k')) :
    sortedFrom B = sortedFrom (lexBefore p) := by
  have e : sortPositions 16 B = sortPositions 16 (lexBefore p) := by
    refine stableSort_increasing _ _ _ (List.pairwise_lt_finRange 16) fun a b hab => ?_
    rw [hB, lexBefore]
    simp [not_lt.mpr hab.le]
  exact sortedFrom_of_positions e

/-- **The group at sorted position `i` has rank `i`.** -/
theorem rank_sortedFrom (p : Fin 16 → EReal) (B : Fin 16 → Fin 16 → Bool) (hB : ∀ k k', B k k' = decide (-p k < -p k'))
    (i : Fin 16) : rank p (sortedFrom B i) = i.val := by
  classical
  rw [sortedFrom_lex p B hB]
  have hT := lexBefore_total p
  have hno : ∀ a b : Fin 16, a < b → lexBefore p (sortedFrom (lexBefore p) b) (sortedFrom (lexBefore p) a) = false :=
    fun a b hab => sortedFrom_noInversion _ _ (fun a b h => hT.asymm a b h) (fun _ _ h => h) hT.negTrans a b hab
  have hinj := sortedFrom_injective (lexBefore p)
  have hsur := sortedFrom_surjective (lexBefore p)
  generalize sortedFrom (lexBefore p) = σ at hno hinj hsur ⊢
  have hiff : ∀ k : Fin 16, Beats p (σ i) (σ k) ↔ k < i := by
    intro k
    rw [← lexBefore_iff]
    rcases lt_trichotomy k i with h | h | h
    · refine iff_of_true ?_ h
      rcases hT.total _ _ (fun e => h.ne (hinj e)) with h' | h'
      · exact h'
      · rw [hno k i h] at h'; exact absurd h' (by decide)
    · subst h
      exact iff_of_false (by rw [hT.irrefl]; decide) (lt_irrefl _)
    · exact iff_of_false (by rw [hno i k h]; decide) (lt_asymm h)
  have hs : rank p (σ i) = ∑ k : Fin 16, if Beats p (σ i) (σ k) then 1 else 0 := by
    unfold rank
    exact (Function.Bijective.sum_comp ⟨hinj, hsur⟩ fun k => if Beats p (σ i) k then 1 else 0).symm
  rw [hs, Finset.sum_congr rfl fun k _ => if_congr (hiff k) rfl rfl, Finset.sum_boole]
  rw [show ({k : Fin 16 | k < i} : Finset (Fin 16)) = Finset.Iio i by ext; simp, Fin.card_Iio]
  rfl

end Cert.Spec

end
-- ==== Proof.RefSelect.lean ====
/-
  The reference's choice of groups: its sort, the gather of the sorted numbers, the scatter back, and the result.
-/
module

public import proofs.«01_k».proof.Proof.RefRouter
public import proofs.«01_k».proof.Proof.Rank
public import Idealize.ShloMosaic.Lib.ReduceAll
public import Idealize.ShloMosaic.Lib.Routing.OpsSet
public import Idealize.ShloMosaic.Lib.Routing.OpsPair
public import Idealize.ShloMosaic.Lib.Pipeline.Value

@[expose] public section

noncomputable section

open Idealize.ShloMosaic Idealize.ShloMosaic.ValueIdx Cert.ReferenceIdeal Cert.ReferenceIdeal.Read Cert.Spec

namespace Cert.RefValue

/-! ## Words below 16 and below 16384 -/

/-- A small word is not negative. -/
theorem small_slt (n : Fin 16) : IntOp.cmpi .slt (BitVec.ofNat 32 n.val) 0#32 = 0#1 := by revert n; decide

/-- A small word is at least zero and at most fifteen. -/
theorem small_in (n : Fin 16) :
    IntOp.andi (IntOp.cmpi .sge (BitVec.ofNat 32 n.val) 0#32) (IntOp.cmpi .sle (BitVec.ofNat 32 n.val) 15#32) = 1#1 := by
  revert n; decide

/-- A small word read signed and clamped is itself. -/
theorem small_clamp (n : Fin 16) : min (BitVec.ofNat 32 n.val).toInt.toNat 15 = n.val := by revert n; decide

/-- A word below 2^31 read signed is the number. -/
theorem toInt_small (n : Nat) (h : n < 16384) : (BitVec.ofNat 32 n).toInt = (n : Int) := by
  rw [BitVec.toInt_eq_toNat_of_lt (by rw [BitVec.toNat_ofNat]; omega), BitVec.toNat_ofNat]
  omega

/-- "position below 2", as the comparison of words prints it. -/
theorem small_lt2 (n : Fin 16) : IntOp.cmpi .slt (BitVec.ofNat 32 n.val) 2#32 = BitVec.ofBool (decide (n.val < 2)) := by
  revert n; decide

/-- "position below 8", as the comparison of words prints it. -/
theorem small_lt8 (n : Fin 16) : IntOp.cmpi .slt (BitVec.ofNat 32 n.val) 8#32 = BitVec.ofBool (decide (n.val < 8)) := by
  revert n; decide

/-! ## The order of the sort -/

/-- The reference's order on sorted entries: over extended reals, the plain order of the keys. -/
theorem comparator_eq (l r : EReal × BitVec 32) :
    comparator_f32_i32_d1 (F := Ideal) l r = BitVec.ofBool (decide (l.1 < r.1)) := by
  have key : ∀ a : EReal, Scalar.select (Ideal.cmp .une a a) (FloatOps.ofBits (F := Ideal) .f32 0x7FC00000#32)
      (Scalar.select (Ideal.cmp .oeq a (FloatOps.ofBits (F := Ideal) .f32 0x00000000#32))
        (FloatOps.ofBits (F := Ideal) .f32 0x00000000#32) a) = a := by
    intro a
    rw [show FloatOps.ofBits (F := Ideal) .f32 0x00000000#32 = (0 : EReal) from Ideal.ofBits_zero_f32]
    by_cases h : a = 0 <;> simp [Ideal.cmp, Scalar.select, h]
  unfold comparator_f32_i32_d1
  exact (congrArg₂ (fun a b : EReal => FloatOps.cmpfTotal (F := Ideal) (φ := .f32) .lt a b) (key l.1) (key r.1)).trans rfl

/-- The position at which row `r`'s sort of the numbers `p` finds its `i`-th entry. -/
def order (p : Fin 16 → EReal) : Fin 16 → Fin 16 := sortedFrom fun k k' => decide (-p k < -p k')

/-- The entry found at sorted position `i` has rank `i`. -/
theorem rank_order (p : Fin 16 → EReal) (i : Fin 16) : rank p (order p i) = i.val :=
  rank_sortedFrom p _ (fun _ _ => rfl) i

/-- No entry is found twice. -/
theorem order_injective (p : Fin 16 → EReal) : Function.Injective (order p) := sortedFrom_injective _

/-- Every entry is found. -/
theorem order_surjective (p : Fin 16 → EReal) : Function.Surjective (order p) := sortedFrom_surjective _

/-- A one-bit word compared with 1. -/
theorem ofBool_beq (P : Prop) [Decidable P] : (BitVec.ofBool (decide P) == 1#1) = decide P := by
  by_cases h : P <;> simp [h]

/-- A two-operand sort along the columns of a matrix, its second result at row `r`: the row's own sort of positions. -/
theorem sort2_at {α β : Type} {N M : Nat} (cmp : α × β → α × β → BitVec 1) (x : (⟨2, ![N, M]⟩ : Shape).Idx → α)
    (y : (⟨2, ![N, M]⟩ : Shape).Idx → β) (r : Fin N) (i : Fin M) :
    (Host.sort2 ⟨2, ![N, M]⟩ 1 cmp x y).2 (ix2 r i)
      = y (ix2 r (sortedFrom (fun k k' => cmp (x (ix2 r k), y (ix2 r k)) (x (ix2 r k'), y (ix2 r k')) == 1#1) i)) := by
  have hal : (fun k : Fin M => Shape.Idx.along (s := ⟨2, ![N, M]⟩) (ix2 r i) 1 k) = fun k => ix2 r k :=
    funext fun k => idx2_of _ _ _ rfl rfl
  unfold Host.sort2
  rw [dif_pos (show 1 < (⟨2, ![N, M]⟩ : Shape).rank from Nat.lt_succ_self 1)]
  exact congrArg (fun A : Fin M → (⟨2, ![N, M]⟩ : Shape).Idx =>
    y (A (sortedFrom (fun k k' => cmp (x (A k), y (A k)) (x (A k'), y (A k')) == 1#1) i))) hal

variable (x0 : S16384x2048.Idx → EReal) (x1 : S2048x512.Idx → EReal) (x2 x3 x4 : S512.Idx → EReal)
  (x5 : S512x256.Idx → EReal) (x6 : S256.Idx → EReal) (x7 : S256x16.Idx → EReal) (x8 x13 : S16.Idx → EReal)
  (x9 : S2048x512.Idx → EReal) (x10 : S512.Idx → EReal) (x11 : S512x2048.Idx → EReal) (x12 : S2048.Idx → EReal)

/-- The sorted positions. -/
theorem v62_at (r : Fin 16384) (i : Fin 16) :
    val_main_v62 (F := Ideal) x0 x1 x2 x3 x4 x5 x6 x7 x8 x13 (ix2 r i)
      = BitVec.ofNat 32 (order (groups x0 x1 x2 x3 x4 x5 x6 x7 x8 x13 r) i).val := by
  unfold val_main_v62
  rw [sort2_at, val_main_call0_v0_apply]
  have hB : (fun k k' : Fin 16 => comparator_f32_i32_d1 (F := Ideal)
        (val_main_v61 (F := Ideal) x0 x1 x2 x3 x4 x5 x6 x7 x8 x13 (ix2 r k), val_main_call0_v0 (F := Ideal) (ix2 r k))
        (val_main_v61 (F := Ideal) x0 x1 x2 x3 x4 x5 x6 x7 x8 x13 (ix2 r k'), val_main_call0_v0 (F := Ideal) (ix2 r k'))
          == 1#1)
      = fun k k' => decide (-groups x0 x1 x2 x3 x4 x5 x6 x7 x8 x13 r k < -groups x0 x1 x2 x3 x4 x5 x6 x7 x8 x13 r k') := by
    funext k k'
    rw [comparator_eq, val_main_v61_apply, val_main_v61_apply, v60_at, v60_at]
    exact ofBool_beq (-groups x0 x1 x2 x3 x4 x5 x6 x7 x8 x13 r k < -groups x0 x1 x2 x3 x4 x5 x6 x7 x8 x13 r k')
  exact congrArg (fun B : Fin 16 → Fin 16 → Bool => BitVec.ofNat 32 (sortedFrom B i).val) hB

/-- The wrapped positions, as the gather takes them. -/
theorem c1v5_at (r : Fin 16384) (i : Fin 16) (z : S16384x16x1.Idx) (h0 : (z 0).val = r.val) (h1 : (z 1).val = i.val) :
    val_main_call1_v5 (F := Ideal) x0 x1 x2 x3 x4 x5 x6 x7 x8 x13 z
      = BitVec.ofNat 32 (order (groups x0 x1 x2 x3 x4 x5 x6 x7 x8 x13 r) i).val := by
  have e : idx_main_call1_v5 z = ix2 r i := by
    have h2 : (z 2).val < 1 := (z 2).isLt
    have hi := i.isLt
    refine idx2_of _ _ _ ?_ ?_
    · show (((z 0).val * 16 + (z 1).val) * 1 + (z 2).val) / 16 = r.val
      omega
    · show (((z 0).val * 16 + (z 1).val) * 1 + (z 2).val) % 16 = i.val
      omega
  rw [val_main_call1_v5_apply, e, val_main_call1_v4_apply, val_main_call1_v1_apply, val_main_call1_v0_apply,
    val_main_call1_c_apply, v62_at, small_slt]
  rfl

/-- No position is out of range. -/
theorem c1v12_at (y : S16384x16.Idx) : val_main_call1_v12 (F := Ideal) x0 x1 x2 x3 x4 x5 x6 x7 x8 x13 y = 1#1 := by
  refine Host.reduce_andi_one _ _ _ _ _ rfl fun z => ?_
  rw [val_main_call1_v11_apply, val_main_call1_v7_apply, val_main_call1_v10_apply, val_main_call1_v9_apply,
    val_main_call1_v8_apply, val_main_call1_c_1_apply, val_main_call1_v6_apply, val_main_call1_c_2_apply,
    c1v5_at x0 x1 x2 x3 x4 x5 x6 x7 x8 x13 ⟨(z 0).val, (z 0).isLt⟩ ⟨(z 1).val, (z 1).isLt⟩ z rfl rfl]
  exact small_in _

/-- The gather reads, in its own row, the column its position names. -/
theorem gather_at (x : S16384x16.Idx → EReal) (idx : IVec S16384x16x1 32) (r : Fin 16384) (i n : Fin 16)
    (h : ∀ z : S16384x16x1.Idx, (z 0).val = r.val → (z 1).val = i.val → idx z = BitVec.ofNat 32 n.val) :
    Host.gather gather_S16384x16_S16384x16x1_S16384x16_n_1_0_0_1_2_11 x idx (ix2 r i) = x (ix2 r n) := by
  unfold Host.gather
  refine congrArg x (idx2_of _ _ _ ?_ ?_)
  · show GatherDims.start _ (ix2 r i) idx 0 + GatherDims.batchCoord _ (ix2 r i) 0 + GatherDims.offCoord _ (ix2 r i) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (by decide)]
    rfl
  · show GatherDims.start _ (ix2 r i) idx 1 + GatherDims.batchCoord _ (ix2 r i) 1 + GatherDims.offCoord _ (ix2 r i) 1 = n.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (by decide), h _ rfl rfl]
    exact small_clamp n

/-- The sorted numbers. -/
theorem v63_at (r : Fin 16384) (i : Fin 16) :
    val_main_v63 (F := Ideal) x0 x1 x2 x3 x4 x5 x6 x7 x8 x13 (ix2 r i)
      = groups x0 x1 x2 x3 x4 x5 x6 x7 x8 x13 r (order (groups x0 x1 x2 x3 x4 x5 x6 x7 x8 x13 r) i) := by
  rw [val_main_v63_apply, c1v12_at]
  show val_main_call1_v13 (F := Ideal) x0 x1 x2 x3 x4 x5 x6 x7 x8 x13 (ix2 r i) = _
  unfold val_main_call1_v13
  rw [gather_at _ _ r i _ (fun z h0 h1 => c1v5_at x0 x1 x2 x3 x4 x5 x6 x7 x8 x13 r i z h0 h1), v60_at]

/-- The decision at sorted position `i`. -/
theorem v75_at (r : Fin 16384) (i : Fin 16) :
    val_main_v75 (F := Ideal) x0 x1 x2 x3 x4 x5 x6 x7 x8 x13 (ix2 r i)
      = activate i.val (groups x0 x1 x2 x3 x4 x5 x6 x7 x8 x13 r (order (groups x0 x1 x2 x3 x4 x5 x6 x7 x8 x13 r) i)) := by
  rw [val_main_v75_apply, val_main_call3_v0_apply, val_main_v66_apply, val_main_v64_apply, val_main_v65_apply, val_main_c_apply,
    val_main_v67_apply, val_main_cst_10_apply, val_main_v74_apply, val_main_call2_v0_apply, val_main_v69_apply,
    val_main_v64_apply, val_main_v68_apply, val_main_c_11_apply, val_main_v72_apply, val_main_v71_apply, val_main_v70_apply,
    val_main_cst_12_apply, val_main_v73_apply, val_main_cst_13_apply, v63_at]
  show Scalar.select (IntOp.cmpi .slt (BitVec.ofNat 32 i.val) 2#32) _
    (Scalar.select (IntOp.cmpi .slt (BitVec.ofNat 32 i.val) 8#32) _ _) = _
  rw [small_lt2, small_lt8,
    show FloatOps.ofBits (F := Ideal) .f32 0x3F800000#32 = (1 : EReal) from Ideal.ofBits_one_f32,
    show FloatOps.ofBits (F := Ideal) .f32 0x00000000#32 = (0 : EReal) from Ideal.ofBits_zero_f32]
  unfold activate
  by_cases h2 : i.val < 2
  · simp [h2, Scalar.select]
  by_cases h8 : i.val < 8
  · simp only [h2, h8, if_true, if_false, decide_true, decide_false, BitVec.ofBool_true, BitVec.ofBool_false, Scalar.select]
    show (((Ideal.cmp .ogt _ half).toNat : ℝ) : EReal) = _
    by_cases hq : half < groups x0 x1 x2 x3 x4 x5 x6 x7 x8 x13 r (order (groups x0 x1 x2 x3 x4 x5 x6 x7 x8 x13 r) i)
    · simp [Ideal.cmp, hq]
    · simp [Ideal.cmp, hq]
  · simp [h2, h8, Scalar.select]

/-- The places of the scatter: row and sorted column. -/
theorem v92_row (r : Fin 16384) (i : Fin 16) (z : S16384x16x2.Idx) (h0 : (z 0).val = r.val) (h1 : (z 1).val = i.val)
    (h2 : (z 2).val = 0) :
    val_main_v92 (F := Ideal) x0 x1 x2 x3 x4 x5 x6 x7 x8 x13 z = BitVec.ofNat 32 r.val := by
  unfold val_main_v92
  rw [concatenate_pair_apply_left (s₁ := S16384x16x1) (s₂ := S16384x16x1) _ _ _ _ z rfl
    (ix3 r i (0 : Fin 1)) (fun b => match b with | ⟨0, _⟩ => h0.symm | ⟨1, _⟩ => h1.symm | ⟨2, _⟩ => h2.symm)]
  rw [val_main_v90_apply, val_main_v89_apply, val_main_v83_apply, val_main_v80_apply, val_main_v78_apply, val_main_v77_apply,
    val_main_v79_apply, val_main_c_15_apply]
  refine Routing.wrap_of_lt _ _ ?_
  rw [BitVec.toNat_ofNat]
  have := r.isLt
  show r.val % _ < _
  omega

/-- The places of the scatter: the column. -/
theorem v92_col (r : Fin 16384) (i : Fin 16) (z : S16384x16x2.Idx) (h0 : (z 0).val = r.val) (h1 : (z 1).val = i.val)
    (h2 : (z 2).val = 1) :
    val_main_v92 (F := Ideal) x0 x1 x2 x3 x4 x5 x6 x7 x8 x13 z
      = BitVec.ofNat 32 (order (groups x0 x1 x2 x3 x4 x5 x6 x7 x8 x13 r) i).val := by
  unfold val_main_v92
  rw [concatenate_pair_apply_right (s₁ := S16384x16x1) (s₂ := S16384x16x1) _ _ _ _ z rfl rfl
    (ix3 r i (0 : Fin 1))
    (fun b hb => match b with | ⟨0, _⟩ => h0.symm | ⟨1, _⟩ => h1.symm | ⟨2, _⟩ => absurd rfl hb) (by rw [h2]; rfl)]
  have e : idx_main_v91 (ix3 r i (0 : Fin 1)) = ix2 r i := idx2_of _ _ _ rfl rfl
  rw [val_main_v91_apply, e, val_main_v88_apply, val_main_v85_apply, val_main_v84_apply, val_main_c_17_apply, v62_at, small_slt]
  rfl

/-- Update `(r, i)` lands at row `r`, at the column found at sorted position `i`. -/
theorem lands_iff (r r' : Fin 16384) (i j : Fin 16) :
    scatter_S16384x16_S16384x16x2_S16384x16_n_01_01_2.resultIdx? (ix2 r i)
        (val_main_v92 (F := Ideal) x0 x1 x2 x3 x4 x5 x6 x7 x8 x13) = some (ix2 r' j)
      ↔ r = r' ∧ order (groups x0 x1 x2 x3 x4 x5 x6 x7 x8 x13 r) i = j := by
  rw [Routing.resultIdx?_eq_some]
  have w : ∀ a, ScatterDims.window scatter_S16384x16_S16384x16x2_S16384x16_n_01_01_2 (ix2 r i) a = 0 := by
    intro a
    unfold ScatterDims.window
    exact dif_neg (by revert a; decide)
  have s0 : ScatterDims.start scatter_S16384x16_S16384x16x2_S16384x16_n_01_01_2 (ix2 r i)
      (val_main_v92 (F := Ideal) x0 x1 x2 x3 x4 x5 x6 x7 x8 x13) 0 = (r.val : Int) := by
    unfold ScatterDims.start
    rw [dif_pos (by decide), v92_row x0 x1 x2 x3 x4 x5 x6 x7 x8 x13 r i _ rfl rfl rfl]
    exact toInt_small _ r.isLt
  have s1 : ScatterDims.start scatter_S16384x16_S16384x16x2_S16384x16_n_01_01_2 (ix2 r i)
      (val_main_v92 (F := Ideal) x0 x1 x2 x3 x4 x5 x6 x7 x8 x13) 1
      = ((order (groups x0 x1 x2 x3 x4 x5 x6 x7 x8 x13 r) i).val : Int) := by
    unfold ScatterDims.start
    rw [dif_pos (by decide), v92_col x0 x1 x2 x3 x4 x5 x6 x7 x8 x13 r i _ rfl rfl rfl]
    exact toInt_small _ (by omega)
  constructor
  · intro h
    have a0 := h 0
    have a1 := h 1
    rw [w, s0] at a0
    rw [w, s1] at a1
    exact ⟨Fin.ext (by change (r.val : Int) + 0 = (r'.val : Int) at a0; omega),
      Fin.ext (by change (_ : Int) + 0 = (j.val : Int) at a1; omega)⟩
  · rintro ⟨rfl, rfl⟩ a
    match a with
    | ⟨0, _⟩ => exact (congrArg₂ (fun u v => u + ((v : Nat) : Int)) s0 (w 0)).trans (Int.add_zero _)
    | ⟨1, _⟩ => exact (congrArg₂ (fun u v => u + ((v : Nat) : Int)) s1 (w 1)).trans (Int.add_zero _)

/-- The decision of group `j`: made on its rank and its number. -/
theorem v93_at (r : Fin 16384) (j : Fin 16) :
    val_main_v93 (F := Ideal) x0 x1 x2 x3 x4 x5 x6 x7 x8 x13 (ix2 r j)
      = activate (rank (groups x0 x1 x2 x3 x4 x5 x6 x7 x8 x13 r) j) (groups x0 x1 x2 x3 x4 x5 x6 x7 x8 x13 r j) := by
  obtain ⟨i, hi⟩ := order_surjective (groups x0 x1 x2 x3 x4 x5 x6 x7 x8 x13 r) j
  unfold val_main_v93
  refine Routing.scatter_set_hit _ _ _ _ _ _ (fun k hk => ?_) (ix2 r i)
    ((lands_iff x0 x1 x2 x3 x4 x5 x6 x7 x8 x13 r r i j).2 ⟨rfl, hi⟩)
  have ek : k = ix2 (⟨(k 0).val, (k 0).isLt⟩ : Fin 16384) (⟨(k 1).val, (k 1).isLt⟩ : Fin 16) := idx2_of _ _ _ rfl rfl
  rw [ek] at hk ⊢
  obtain ⟨hr, hj⟩ := (lands_iff x0 x1 x2 x3 x4 x5 x6 x7 x8 x13 _ r _ j).1 hk
  rw [hr] at hj ⊢
  rw [v75_at, hj, ← hj, rank_order]

/-- Adding and taking away the group's number changes nothing: it is a real number. -/
theorem v95_at (r : Fin 16384) (j : Fin 16) :
    val_main_v95 (F := Ideal) x0 x1 x2 x3 x4 x5 x6 x7 x8 x13 (ix2 r j)
      = activate (rank (groups x0 x1 x2 x3 x4 x5 x6 x7 x8 x13 r) j) (groups x0 x1 x2 x3 x4 x5 x6 x7 x8 x13 r j) := by
  rw [val_main_v95_apply, val_main_v94_apply, v93_at, v60_at]
  exact sub_add_finite _ _ (logistic_finite _)

/-- **The reference's result at row `r`, column `n`.** -/
theorem v120_at (r : Fin 16384) (n : Fin 2048) :
    val_main_v120 (F := Ideal) x0 x1 x2 x3 x4 x5 x6 x7 x8 x9 x10 x11 x12 x13 (ix2 r n)
      = gated (groups x0 x1 x2 x3 x4 x5 x6 x7 x8 x13 r)
          (weights (row x0 r) (mat x9) (vec x10) (mat x11) (vec x12)) n := by
  have e : idx_main_v96 (idx_main_v97 (ix2 r n)) = ix2 r (group n) := by
    have hn := n.isLt
    refine idx2_of _ _ _ ?_ ?_
    · show (r.val * 2048 + n.val) / 2048 = r.val
      omega
    · show (r.val * 2048 + n.val) / 128 % 16 = n.val / 128
      omega
  rw [val_main_v120_apply, val_main_v97_apply, val_main_v96_apply, e, v95_at, v119_at]
  rfl

end Cert.RefValue

end
-- ==== Proof.KernelRouter.lean ====
/-
  The kernel's router and its column weights, read at an index.
-/
module

public import proofs.«01_k».proof.Proof.Scalars
public import proofs.«01_k».proof.Proof.Gen.KernelIdeal.Skeleton
public import Idealize.ShloMosaic.Lib.Pointwise
public import Idealize.ShloMosaic.PureOps.IdealRules

@[expose] public section

noncomputable section

open Idealize.ShloMosaic Cert.KernelIdeal Cert.KernelIdeal.Gen Cert.Spec

namespace Cert.KernelValue

/-- The kernel's constant for the square root of two. -/
theorem named_sqrt2 : Named.named (F := Ideal) (φ := .f32) Cert.KernelIdeal.κ "sqrt2" 0x3FB504F3#32 = ((Real.sqrt 2 : ℝ) : EReal) :=
  IdealRules.named_const.ideal_named_scalar _ _ _ _ rfl

/-- The kernel's constant for one over the square root of two. -/
theorem named_rsqrt2 :
    Named.named (F := Ideal) (φ := .f32) Cert.KernelIdeal.κ "rsqrt2" 0x3F3504F3#32 = (((Real.sqrt 2)⁻¹ : ℝ) : EReal) :=
  IdealRules.named_const.ideal_named_scalar _ _ _ _ rfl

/-- The one row of a bias kept as a matrix of one row. -/
abbrev bias {N : ℕ} (b : (⟨2, ![1, N]⟩ : Shape).Idx → EReal) : Fin N → EReal := fun k => b (ValueIdx.ix2 0 k)

/-- The first dense layer. -/
theorem pay2_at (x : S1024x2048.Idx → EReal) (w : S2048x512.Idx → EReal) (b : S1x512.Idx → EReal) (r : Fin 1024) (k : Fin 512) :
    k0_pay2 (F := Ideal) x w b (ix2 r k) = dense (row x r) (mat w) (bias b) k := by
  pointwise [k0_pay2]
  simp only [ix2_eq_valueIdx]
  rfl

/-- The mean of the row. -/
theorem pay4_at (x : S1024x2048.Idx → EReal) (w : S2048x512.Idx → EReal) (b : S1x512.Idx → EReal) (r : Fin 1024) :
    k0_pay4 (F := Ideal) x w b (ix2 r 0) = mean (dense (row x r) (mat w) (bias b)) := by
  unfold k0_pay4
  pointwise
  simp only [pay2_at]
  rfl

/-- The row less its mean. -/
theorem pay5_at (x : S1024x2048.Idx → EReal) (w : S2048x512.Idx → EReal) (b : S1x512.Idx → EReal) (r : Fin 1024) (k : Fin 512) :
    k0_pay5 (F := Ideal) x w b (ix2 r k)
      = dense (row x r) (mat w) (bias b) k - mean (dense (row x r) (mat w) (bias b)) := by
  unfold k0_pay5
  pointwise
  rw [pay2_at, pay4_at]

/-- The router's second hidden row, from the first dense layer's row `h`. -/
theorem pay6_at (v6 v36 : S1024x512.Idx → EReal) (v34 : S1024x1.Idx → EReal) (g be : S1x512.Idx → EReal)
    (W2 : S512x256.Idx → EReal) (b2 : S1x256.Idx → EReal) (r : Fin 1024) (k : Fin 256) (h : Fin 512 → EReal)
    (h6 : ∀ j, v6 (ix2 r j) = h j) (h34 : v34 (ix2 r 0) = mean h) (h36 : ∀ j, v36 (ix2 r j) = h j - mean h) :
    k0_pay6 (F := Ideal) v6 v34 v36 g be W2 b2 (ix2 r k)
      = gelu (dense (fun j => gelu (norm h (bias g) (bias be) j)) (mat W2) (bias b2) k) := by
  pointwise [k0_pay6]
  simp only [h6, h34, h36, named_sqrt2, Ideal.ofBits_one_f32]
  simp only [ix2_eq_valueIdx]
  refine (gelu_div _).trans (congrArg gelu ?_)
  refine congrArg₂ (· + ·) (Finset.sum_congr rfl fun j _ => ?_) rfl
  exact congrArg (· * _) (gelu_div _)

/-- The group numbers, groups down the rows. -/
theorem pay7_at (v : S1024x256.Idx → EReal) (w : S256x16.Idx → EReal) (b : S1x16.Idx → EReal) (j : Fin 16) (r : Fin 1024) :
    k0_pay7 (F := Ideal) v w b (ix2 j r) = Ideal.logistic (dense (row v r) (mat w) (bias b) j) := by
  pointwise [k0_pay7]
  simp only [ix2_eq_valueIdx]
  rfl

/-- The numbers of the columns, before the last nonlinearity. -/
theorem pay3_at (x : S1024x2048.Idx → EReal) (D1 : S2048x512.Idx → EReal) (db1 : S1x512.Idx → EReal)
    (D2 : S512x2048.Idx → EReal) (db2 : S1x2048.Idx → EReal) (r : Fin 1024) (n : Fin 2048) :
    k0_pay3 (F := Ideal) x D1 db1 D2 db2 (ix2 r n)
      = dense (fun k => gelu (dense (row x r) (mat D1) (bias db1) k)) (mat D2) (bias db2) n := by
  pointwise [k0_pay3]
  simp only [named_rsqrt2, Ideal.ofBits_one_f32]
  simp only [ix2_eq_valueIdx]
  rfl

/-- The weights of the columns. -/
theorem pay24_at (v : S1024x2048.Idx → EReal) (r : Fin 1024) (n : Fin 2048) :
    k0_pay24 (F := Ideal) v (ix2 r n) = Ideal.logistic (v (ix2 r n)) := by
  pointwise [k0_pay24]
  exact logistic_tanh _

/-- The group of each column, as the kernel holds it: copied. -/
theorem pay25_at (E : S16x2048.Idx → EReal) (j : Fin 16) (n : Fin 2048) :
    k0_pay25 (F := Ideal) E (ix2 j n) = E (ix2 j n) := by
  pointwise [k0_pay25]

/-- The last product, before the weights are applied: a column of groups against the column's groups. -/
theorem pay1_at (s : S16x1024.Idx → EReal) (w : S1024x2048.Idx → EReal) (E : S16x2048.Idx → EReal) (r : Fin 1024) (n : Fin 2048) :
    k0_pay1 (F := Ideal) s w E (ix2 r n) = (∑ j : Fin 16, s (ix2 j r) * E (ix2 j n)) * w (ix2 r n) := by
  pointwise [k0_pay1]

end Cert.KernelValue

end
-- ==== Proof.KernelRank.lean ====
/-
  The kernel's ranks: each group's number compared with all sixteen, the comparisons added up; then the decision.
-/
module

public import proofs.«01_k».proof.Proof.Scalars
public import proofs.«01_k».proof.Proof.Gen.KernelIdeal.Skeleton
public import Idealize.ShloMosaic.Lib.Pointwise

@[expose] public section

noncomputable section

open Idealize.ShloMosaic Cert.KernelIdeal Cert.KernelIdeal.Gen Cert.Spec

namespace Cert.KernelValue

open Classical in
/-- Whether group `k` comes before group `j`, as a number. -/
def beats (p : Fin 16 → EReal) (j k : Fin 16) : ℕ := if Beats p j k then 1 else 0

/-- One comparison of the kernel, as a word: larger, or equal with a smaller position. -/
def word (p : Fin 16 → EReal) (j k : Fin 16) : BitVec 32 :=
  BitVec.setWidth 32 (IntOp.ori (BitVec.ofBool (decide (p j < p k)))
    (IntOp.andi (BitVec.ofBool (decide (p k = p j))) (IntOp.cmpi .sgt (BitVec.ofNat 32 j.val) (BitVec.ofNat 32 k.val))))

/-- The comparison of positions. -/
theorem sgt_small (j k : Fin 16) :
    IntOp.cmpi .sgt (BitVec.ofNat 32 j.val) (BitVec.ofNat 32 k.val) = BitVec.ofBool (decide (k < j)) := by
  revert j k; decide

/-- The word is the number. -/
theorem word_eq (p : Fin 16 → EReal) (j k : Fin 16) : word p j k = BitVec.ofNat 32 (beats p j k) := by
  unfold word beats Beats
  rw [sgt_small]
  by_cases h1 : p j < p k <;> by_cases h2 : p k = p j <;> by_cases h3 : k < j <;>
    simp [h1, h2, h3, IntOp.ori, IntOp.andi]

/-- The rank is the sum of the sixteen. -/
theorem rank_eq (p : Fin 16 → EReal) (j : Fin 16) : rank p j = ∑ k, beats p j k := rfl

/-- A rank is at most sixteen. -/
theorem rank_le (p : Fin 16 → EReal) (j : Fin 16) : rank p j ≤ 16 := by
  rw [rank_eq]
  refine (Finset.sum_le_sum (g := fun _ => 1) fun k _ => ?_).trans (by simp)
  unfold beats
  split <;> omega

/-- The sixteen words, added in the kernel's order. -/
theorem words_eq (p : Fin 16 → EReal) (j : Fin 16) :
    IntOp.addi (IntOp.addi (IntOp.addi (IntOp.addi (IntOp.addi (IntOp.addi (IntOp.addi (IntOp.addi (IntOp.addi (IntOp.addi
      (IntOp.addi (IntOp.addi (IntOp.addi (IntOp.addi (IntOp.addi (IntOp.addi 0#32 (word p j 0)) (word p j 1)) (word p j 2))
      (word p j 3)) (word p j 4)) (word p j 5)) (word p j 6)) (word p j 7)) (word p j 8)) (word p j 9)) (word p j 10))
      (word p j 11)) (word p j 12)) (word p j 13)) (word p j 14)) (word p j 15) = BitVec.ofNat 32 (rank p j) := by
  rw [rank_eq]
  simp only [word_eq, Fin.sum_univ_succ, Fin.sum_univ_zero, IntOp.addi, Nat.add_zero, BitVec.ofNat_add]
  simp only [← BitVec.add_assoc, BitVec.zero_add]
  rfl

/-- The numbers of one row's groups, from a matrix with the groups down its rows. -/
abbrev col (v : S16x1024.Idx → EReal) (r : Fin 1024) : Fin 16 → EReal := fun j => v (ix2 j r)

/-- The positions, as words. -/
def pos : IVec S16x1024 32 := iota .tc S16x1024 32 [0] iota_S16x1024_d0_w32

/-- A position is its group. -/
theorem pos_at (j : Fin 16) (r : Fin 1024) : pos (ix2 j r) = BitVec.ofNat 32 j.val := by
  unfold pos
  pointwise

/-- The first three comparisons. -/
theorem pay8_at (v : S1024x256.Idx → EReal) (w : S256x16.Idx → EReal) (b : S1x16.Idx → EReal) (j : Fin 16) (r : Fin 1024) :
    k0_pay8 (F := Ideal) v w b (ix2 j r)
      = IntOp.addi (IntOp.addi (IntOp.addi 0#32 (word (col (k0_pay7 (F := Ideal) v w b) r) j 0))
          (word (col (k0_pay7 (F := Ideal) v w b) r) j 1)) (word (col (k0_pay7 (F := Ideal) v w b) r) j 2) := by
  unfold k0_pay8
  generalize k0_pay7 (F := Ideal) v w b = p
  pointwise
  rfl

/-- The pieces of the fourth comparison, put together. -/
theorem step3_at (v : S1024x256.Idx → EReal) (w : S256x16.Idx → EReal) (b : S1x16.Idx → EReal) (j : Fin 16) (r : Fin 1024) :
    BitVec.setWidth 32 (IntOp.ori (k0_pay10 (F := Ideal) v w b (ix2 j r))
        (IntOp.andi (k0_pay11 (F := Ideal) v w b (ix2 j r)) (k0_pay12 (ix2 j r))))
      = word (col (k0_pay7 (F := Ideal) v w b) r) j 3 := by
  unfold k0_pay10 k0_pay11 k0_pay12 k0_pay9
  generalize k0_pay7 (F := Ideal) v w b = p
  pointwise
  rfl

/-- The fourth to the eighth comparison. -/
theorem pay13_at (p : S16x1024.Idx → EReal) (acc : IVec S16x1024 32) (u0 u1 u2 : IVec S16x1024 1) (j : Fin 16) (r : Fin 1024) :
    k0_pay13 (F := Ideal) p pos acc u0 u1 u2 (ix2 j r)
      = IntOp.addi (IntOp.addi (IntOp.addi (IntOp.addi (IntOp.addi (acc (ix2 j r))
          (BitVec.setWidth 32 (IntOp.ori (u0 (ix2 j r)) (IntOp.andi (u1 (ix2 j r)) (u2 (ix2 j r))))))
          (word (col p r) j 4)) (word (col p r) j 5)) (word (col p r) j 6)) (word (col p r) j 7) := by
  pointwise [k0_pay13]
  rw [pos_at]
  rfl

/-- The pieces of the ninth comparison, put together. -/
theorem step8_at (p : S16x1024.Idx → EReal) (j : Fin 16) (r : Fin 1024) :
    BitVec.setWidth 32 (IntOp.ori (k0_pay15 (F := Ideal) p (ix2 j r))
        (IntOp.andi (k0_pay16 (F := Ideal) p (ix2 j r)) (k0_pay17 pos (ix2 j r))))
      = word (col p r) j 8 := by
  pointwise [k0_pay15, k0_pay16, k0_pay17, k0_pay14]
  rw [pos_at]
  rfl

/-- The ninth to the thirteenth comparison. -/
theorem pay18_at (p : S16x1024.Idx → EReal) (acc : IVec S16x1024 32) (u0 u1 u2 : IVec S16x1024 1) (j : Fin 16) (r : Fin 1024) :
    k0_pay18 (F := Ideal) p pos acc u0 u1 u2 (ix2 j r)
      = IntOp.addi (IntOp.addi (IntOp.addi (IntOp.addi (IntOp.addi (acc (ix2 j r))
          (BitVec.setWidth 32 (IntOp.ori (u0 (ix2 j r)) (IntOp.andi (u1 (ix2 j r)) (u2 (ix2 j r))))))
          (word (col p r) j 9)) (word (col p r) j 10)) (word (col p r) j 11)) (word (col p r) j 12) := by
  pointwise [k0_pay18]
  rw [pos_at]
  rfl

/-- The pieces of the fourteenth comparison, put together. -/
theorem step13_at (p : S16x1024.Idx → EReal) (j : Fin 16) (r : Fin 1024) :
    BitVec.setWidth 32 (IntOp.ori (k0_pay20 (F := Ideal) p (ix2 j r))
        (IntOp.andi (k0_pay21 (F := Ideal) p (ix2 j r)) (k0_pay22 pos (ix2 j r))))
      = word (col p r) j 13 := by
  pointwise [k0_pay20, k0_pay21, k0_pay22, k0_pay19]
  rw [pos_at]
  rfl

/-- A decision on a rank word is the decision on the rank. -/
theorem decide_rank (n : ℕ) (hn : n ≤ 16) (c : ℕ) (hc : c ≤ 16) :
    IntOp.cmpi .slt (BitVec.ofNat 32 n) (BitVec.ofNat 32 c) = BitVec.ofBool (decide (n < c)) := by
  have key : ∀ a b : Fin 17, IntOp.cmpi .slt (BitVec.ofNat 32 a.val) (BitVec.ofNat 32 b.val) = BitVec.ofBool (decide (a.val < b.val)) := by
    decide
  exact key ⟨n, by omega⟩ ⟨c, by omega⟩

/-- A one-bit word widened and read as a number. -/
theorem bit_number (P : Prop) [Decidable P] :
    (((BitVec.setWidth 32 (BitVec.ofBool (decide P))).toInt : ℝ) : EReal) = if P then 1 else 0 := by
  by_cases h : P <;> simp [h]

/-- The decision, made on the rank word and the number. -/
theorem decision (n : ℕ) (hn : n ≤ 16) (q : EReal) :
    Scalar.select (IntOp.cmpi .slt (BitVec.ofNat 32 n) 2#32) 1 (Scalar.select (IntOp.cmpi .slt (BitVec.ofNat 32 n) 8#32)
        (FloatOps.sitofp (F := Ideal) .f32 (BitVec.setWidth 32 (BitVec.ofBool (decide (half < q))))) 0)
      = activate n q := by
  have e2 : IntOp.cmpi .slt (BitVec.ofNat 32 n) 2#32 = BitVec.ofBool (decide (n < 2)) := decide_rank n hn 2 (by omega)
  have e8 : IntOp.cmpi .slt (BitVec.ofNat 32 n) 8#32 = BitVec.ofBool (decide (n < 8)) := decide_rank n hn 8 (by omega)
  have eb : FloatOps.sitofp (F := Ideal) .f32 (BitVec.setWidth 32 (BitVec.ofBool (decide (half < q))))
      = if half < q then (1 : EReal) else 0 := bit_number (half < q)
  rw [e2, e8, eb]
  unfold activate
  by_cases h2 : n < 2
  · simp [h2, Scalar.select]
  by_cases h8 : n < 8
  · simp [h2, h8, Scalar.select]
  · simp [h2, h8, Scalar.select]

/-- The last comparisons and the decision, given the rank so far. -/
theorem pay23_at (p : S16x1024.Idx → EReal) (acc : IVec S16x1024 32) (u0 u1 u2 : IVec S16x1024 1) (j : Fin 16) (r : Fin 1024)
    (h : IntOp.addi (IntOp.addi (IntOp.addi (acc (ix2 j r))
          (BitVec.setWidth 32 (IntOp.ori (u0 (ix2 j r)) (IntOp.andi (u1 (ix2 j r)) (u2 (ix2 j r))))))
          (word (col p r) j 14)) (word (col p r) j 15) = BitVec.ofNat 32 (rank (col p r) j)) :
    k0_pay23 (F := Ideal) p pos acc u0 u1 u2 (ix2 j r) = activate (rank (col p r) j) (col p r j) := by
  pointwise [k0_pay23]
  rw [pos_at]
  have e : ∀ w : BitVec 32, IntOp.addi (IntOp.addi (IntOp.addi (acc (ix2 j r))
          (BitVec.setWidth 32 (IntOp.ori (u0 (ix2 j r)) (IntOp.andi (u1 (ix2 j r)) (u2 (ix2 j r))))))
          (word (col p r) j 14)) (word (col p r) j 15) = w →
      Scalar.select (IntOp.cmpi .slt w 2#32) 1 (Scalar.select (IntOp.cmpi .slt w 8#32)
        (FloatOps.sitofp (F := Ideal) .f32 (BitVec.setWidth 32 (BitVec.ofBool (decide (half < p (ix2 j r)))))) 0)
        = activate (rank (col p r) j) (col p r j) := by
    intro w hw
    rw [← hw, h]
    exact decision _ (rank_le _ _) _
  exact e _ rfl

end Cert.KernelValue

end
-- ==== Proof.KernelBlock.lean ====
/-
  One block of the kernel's result, read at an index, from the blocks it loads.
-/
module

public import proofs.«01_k».proof.Proof.KernelRouter
public import proofs.«01_k».proof.Proof.KernelRank

@[expose] public section

noncomputable section

open Idealize.ShloMosaic Cert.KernelIdeal Cert.KernelIdeal.Gen Cert.Spec

namespace Cert.KernelValue

variable (x0 : S1024x2048.Idx → EReal) (x1 : S2048x512.Idx → EReal) (x2 x3 x4 : S1x512.Idx → EReal)
  (x5 : S512x256.Idx → EReal) (x6 : S1x256.Idx → EReal) (x7 : S256x16.Idx → EReal) (x8 : S1x16.Idx → EReal)
  (x9 : S2048x512.Idx → EReal) (x10 : S1x512.Idx → EReal) (x11 : S512x2048.Idx → EReal) (x12 : S1x2048.Idx → EReal)
  (x13 : S16x2048.Idx → EReal)

/-- The router's second hidden rows of a block. -/
def hid : S1024x256.Idx → EReal :=
  k0_pay6 (F := Ideal) (k0_pay2 (F := Ideal) x0 x1 x2) (k0_pay4 (F := Ideal) x0 x1 x2) (k0_pay5 (F := Ideal) x0 x1 x2) x3 x4 x5 x6

/-- At an index. -/
theorem hid_at (r : Fin 1024) (k : Fin 256) :
    hid x0 x1 x2 x3 x4 x5 x6 (ix2 r k)
      = gelu (dense (hidden (row x0 r) (mat x1) (bias x2) (bias x3) (bias x4)) (mat x5) (bias x6) k) :=
  pay6_at _ _ _ _ _ _ _ r k (dense (row x0 r) (mat x1) (bias x2)) (fun j => pay2_at _ _ _ _ _) (pay4_at _ _ _ _)
    (fun j => pay5_at _ _ _ _ _)

/-- The group numbers of a block. -/
def nums : S16x1024.Idx → EReal := k0_pay7 (F := Ideal) (hid x0 x1 x2 x3 x4 x5 x6) x7 x8

/-- At an index. -/
theorem nums_at (r : Fin 1024) :
    col (nums x0 x1 x2 x3 x4 x5 x6 x7 x8) r
      = probs (row x0 r) (mat x1) (bias x2) (bias x3) (bias x4) (mat x5) (bias x6) (mat x7) (bias x8) := by
  funext j
  refine (pay7_at _ _ _ j r).trans ?_
  unfold probs
  rw [show row (hid x0 x1 x2 x3 x4 x5 x6) r
    = fun k => gelu (dense (hidden (row x0 r) (mat x1) (bias x2) (bias x3) (bias x4)) (mat x5) (bias x6) k) from
    funext fun k => by rw [← hid_at, ix2_eq_valueIdx]]

/-- The sixteen comparisons and the decision, chained as the kernel chains them. -/
theorem chosen_at (v : S1024x256.Idx → EReal) (w : S256x16.Idx → EReal) (b : S1x16.Idx → EReal) (j : Fin 16) (r : Fin 1024) :
    k0_pay23 (F := Ideal) (k0_pay7 (F := Ideal) v w b) pos
      (k0_pay18 (F := Ideal) (k0_pay7 (F := Ideal) v w b) pos
        (k0_pay13 (F := Ideal) (k0_pay7 (F := Ideal) v w b) pos (k0_pay8 (F := Ideal) v w b) (k0_pay10 (F := Ideal) v w b)
          (k0_pay11 (F := Ideal) v w b) k0_pay12)
        (k0_pay15 (F := Ideal) (k0_pay7 (F := Ideal) v w b)) (k0_pay16 (F := Ideal) (k0_pay7 (F := Ideal) v w b)) (k0_pay17 pos))
      (k0_pay20 (F := Ideal) (k0_pay7 (F := Ideal) v w b)) (k0_pay21 (F := Ideal) (k0_pay7 (F := Ideal) v w b)) (k0_pay22 pos)
      (ix2 j r)
      = activate (rank (col (k0_pay7 (F := Ideal) v w b) r) j) (col (k0_pay7 (F := Ideal) v w b) r j) := by
  refine pay23_at _ _ _ _ _ j r ?_
  rw [step13_at, pay18_at, step8_at, pay13_at, step3_at, pay8_at]
  exact words_eq _ _

/-- **One block of the result at row `r`, column `n`**, the last operand holding each column's group. -/
theorem block_at (r : Fin 1024) (n : Fin 2048) (hE : ∀ j : Fin 16, x13 (ix2 j n) = if j = group n then 1 else 0) :
    k0_pay1 (F := Ideal)
      (k0_pay23 (F := Ideal) (nums x0 x1 x2 x3 x4 x5 x6 x7 x8) pos
        (k0_pay18 (F := Ideal) (nums x0 x1 x2 x3 x4 x5 x6 x7 x8) pos
          (k0_pay13 (F := Ideal) (nums x0 x1 x2 x3 x4 x5 x6 x7 x8) pos
            (k0_pay8 (F := Ideal) (hid x0 x1 x2 x3 x4 x5 x6) x7 x8) (k0_pay10 (F := Ideal) (hid x0 x1 x2 x3 x4 x5 x6) x7 x8)
            (k0_pay11 (F := Ideal) (hid x0 x1 x2 x3 x4 x5 x6) x7 x8) k0_pay12)
          (k0_pay15 (F := Ideal) (nums x0 x1 x2 x3 x4 x5 x6 x7 x8)) (k0_pay16 (F := Ideal) (nums x0 x1 x2 x3 x4 x5 x6 x7 x8))
          (k0_pay17 pos))
        (k0_pay20 (F := Ideal) (nums x0 x1 x2 x3 x4 x5 x6 x7 x8)) (k0_pay21 (F := Ideal) (nums x0 x1 x2 x3 x4 x5 x6 x7 x8))
        (k0_pay22 pos))
      (k0_pay24 (F := Ideal) (k0_pay3 (F := Ideal) x0 x9 x10 x11 x12)) (k0_pay25 (F := Ideal) x13) (ix2 r n)
      = gated (probs (row x0 r) (mat x1) (bias x2) (bias x3) (bias x4) (mat x5) (bias x6) (mat x7) (bias x8))
          (weights (row x0 r) (mat x9) (bias x10) (mat x11) (bias x12)) n := by
  rw [pay1_at, pay24_at, pay3_at]
  unfold gated
  refine congrArg₂ (· * ·) ?_ rfl
  rw [← nums_at]
  refine (Finset.sum_congr rfl fun j _ => congrArg₂ (· * ·) (chosen_at (hid x0 x1 x2 x3 x4 x5 x6) x7 x8 j r)
    ((pay25_at x13 j n).trans (hE j))).trans ?_
  simp only [mul_ite, mul_one, mul_zero, Finset.sum_ite_eq', Finset.mem_univ, if_true]
  rfl

end Cert.KernelValue

end
-- ==== Proof.KernelValue.lean ====
/-
  The kernel's whole result, read at an index, from its argument arrays.
-/
module

public import proofs.«01_k».proof.Proof.KernelBlock
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Spec

namespace Cert.KernelValue

variable (m : (ℓ : Loc nD τ sig) → Buf (Elt Ideal) ℓ)

/-- Where each grid point's blocks lie: the rows and the result move with the point, the other operands stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0])

/-- The array row that row `r` of point `t`'s block is. -/
def at_ (t : Fin cfg0.N) (r : Fin 1024) : Fin 16384 :=
  ⟨t.val * 1024 + r.val, by have h : t.val < 16 := t.isLt; have := r.isLt; omega⟩

/-- The block of rows. -/
theorem rd0 (c : Dev nD) (t : Fin cfg0.N) (r : Fin 1024) (k : Fin 2048) :
    iblk m c 0 t (ix2 r k) = m ((c : Thread nD τ).loc main_arg0) (ix2 (at_ t r) k) := by
  blk_ext [iblk, V, idx t, at_]

/-- The first router matrix. -/
theorem rd1 (c : Dev nD) (t : Fin cfg0.N) (r : Fin 2048) (k : Fin 512) :
    iblk m c 1 t (ix2 r k) = m ((c : Thread nD τ).loc main_arg1) (ix2 r k) := by
  blk_ext [iblk, V, idx t]

/-- The first router bias. -/
theorem rd2 (c : Dev nD) (t : Fin cfg0.N) (k : Fin 512) :
    iblk m c 2 t (ix2 0 k) = m ((c : Thread nD τ).loc main_arg2) (ix1 k) := by
  blk_simp [iblk, idx t]
  entry_read
  pointwise
  blk_ext [idx t]

/-- The normalisation's scale. -/
theorem rd3 (c : Dev nD) (t : Fin cfg0.N) (k : Fin 512) :
    iblk m c 3 t (ix2 0 k) = m ((c : Thread nD τ).loc main_arg3) (ix1 k) := by
  blk_simp [iblk, idx t]
  entry_read
  pointwise
  blk_ext [idx t]

/-- The normalisation's shift. -/
theorem rd4 (c : Dev nD) (t : Fin cfg0.N) (k : Fin 512) :
    iblk m c 4 t (ix2 0 k) = m ((c : Thread nD τ).loc main_arg4) (ix1 k) := by
  blk_simp [iblk, idx t]
  entry_read
  pointwise
  blk_ext [idx t]

/-- The second router matrix. -/
theorem rd5 (c : Dev nD) (t : Fin cfg0.N) (r : Fin 512) (k : Fin 256) :
    iblk m c 5 t (ix2 r k) = m ((c : Thread nD τ).loc main_arg5) (ix2 r k) := by
  blk_ext [iblk, V, idx t]

/-- The second router bias. -/
theorem rd6 (c : Dev nD) (t : Fin cfg0.N) (k : Fin 256) :
    iblk m c 6 t (ix2 0 k) = m ((c : Thread nD τ).loc main_arg6) (ix1 k) := by
  blk_simp [iblk, idx t]
  entry_read
  pointwise
  blk_ext [idx t]

/-- The third router matrix. -/
theorem rd7 (c : Dev nD) (t : Fin cfg0.N) (r : Fin 256) (k : Fin 16) :
    iblk m c 7 t (ix2 r k) = m ((c : Thread nD τ).loc main_arg7) (ix2 r k) := by
  blk_ext [iblk, V, idx t]

/-- The sum of two numbers. -/
def sum2 (a b : EReal) : EReal := a + b

/-- The third router bias with the groups' offsets added. -/
theorem rd8 (c : Dev nD) (t : Fin cfg0.N) (k : Fin 16) :
    iblk m c 8 t (ix2 0 k)
      = sum2 (m ((c : Thread nD τ).loc main_arg8) (ix1 k)) (m ((c : Thread nD τ).loc main_arg13) (ix1 k)) := by
  unfold sum2
  blk_simp [iblk, idx t]
  entry_read
  pointwise
  blk_point [idx t]

/-- The first weight matrix. -/
theorem rd9 (c : Dev nD) (t : Fin cfg0.N) (r : Fin 2048) (k : Fin 512) :
    iblk m c 9 t (ix2 r k) = m ((c : Thread nD τ).loc main_arg9) (ix2 r k) := by
  blk_simp [iblk, idx t]
  entry_read
  pointwise
  blk_ext [idx t]

/-- The first weight bias. -/
theorem rd10 (c : Dev nD) (t : Fin cfg0.N) (k : Fin 512) :
    iblk m c 10 t (ix2 0 k) = m ((c : Thread nD τ).loc main_arg10) (ix1 k) := by
  blk_simp [iblk, idx t]
  entry_read
  pointwise
  blk_ext [idx t]

/-- The second weight matrix. -/
theorem rd11 (c : Dev nD) (t : Fin cfg0.N) (r : Fin 512) (k : Fin 2048) :
    iblk m c 11 t (ix2 r k) = m ((c : Thread nD τ).loc main_arg11) (ix2 r k) := by
  blk_simp [iblk, idx t]
  entry_read
  pointwise
  blk_ext [idx t]

/-- The second weight bias. -/
theorem rd12 (c : Dev nD) (t : Fin cfg0.N) (k : Fin 2048) :
    iblk m c 12 t (ix2 0 k) = m ((c : Thread nD τ).loc main_arg12) (ix1 k) := by
  blk_simp [iblk, idx t]
  entry_read
  pointwise
  blk_ext [idx t]

/-- The word comparison behind the columns' groups. -/
theorem ind (j : Fin 16) (n : Fin 2048) (a b : ℕ) (ha : a = j.val) (hb : b = n.val) :
    FloatOps.uitofp (F := Ideal) FTy.bf16
        (IntOp.cmpi CmpIPredicate.eq (IntOp.addi (BitVec.ofNat 32 a) 0#32) (BitVec.ofNat 32 (b / 128)))
      = (if j = group n then 1 else 0 : EReal) := by
  subst ha hb
  have e : (IntOp.addi (BitVec.ofNat 32 j.val) 0#32 = BitVec.ofNat 32 (n.val / 128)) ↔ j = group n := by
    have h1 := j.isLt
    have h2 := n.isLt
    rw [Fin.ext_iff, ← BitVec.toNat_inj]
    simp only [IntOp.addi, BitVec.add_zero, BitVec.toNat_ofNat, group]
    omega
  by_cases h : j = group n
  · rw [if_pos h, e.2 h]; simp [IntOp.cmpi, FloatOps.uitofp]
  · rw [if_neg h]
    have h' := mt e.1 h
    simp [IntOp.cmpi, FloatOps.uitofp, h']

/-- The columns' groups, as ones and zeros. -/
theorem rd13 (c : Dev nD) (t : Fin cfg0.N) (j : Fin 16) (n : Fin 2048) :
    iblk m c 13 t (ix2 j n) = (if j = group n then 1 else 0 : EReal) := by
  blk_simp [iblk, idx t]
  entry_read
  pointwise
  refine ind j n _ _ ?_ ?_ <;> blk_simp [idx t]

/-- The result at row `r`, column `n`, from the argument arrays. -/
def result (x0 : S16384x2048.Idx → EReal) (x1 : S2048x512.Idx → EReal) (x2 x3 x4 : S512.Idx → EReal)
    (x5 : S512x256.Idx → EReal) (x6 : S256.Idx → EReal) (x7 : S256x16.Idx → EReal) (x8 : S16.Idx → EReal)
    (x9 : S2048x512.Idx → EReal) (x10 : S512.Idx → EReal) (x11 : S512x2048.Idx → EReal) (x12 : S2048.Idx → EReal)
    (x13 : S16.Idx → EReal) (r : Fin 16384) (n : Fin 2048) : EReal :=
  gated (probs (row x0 r) (mat x1) (vec x2) (vec x3) (vec x4) (mat x5) (vec x6) (mat x7) fun j => vec x8 j + vec x13 j)
    (weights (row x0 r) (mat x9) (vec x10) (mat x11) (vec x12)) n

/-- Two rows, matrices and biases equal entry by entry give one result. -/
theorem result_of {x0 : S1024x2048.Idx → EReal} {x1 : S2048x512.Idx → EReal} {x2 x3 x4 : S1x512.Idx → EReal}
    {x5 : S512x256.Idx → EReal} {x6 : S1x256.Idx → EReal} {x7 : S256x16.Idx → EReal} {x8 : S1x16.Idx → EReal}
    {x9 : S2048x512.Idx → EReal} {x10 : S1x512.Idx → EReal} {x11 : S512x2048.Idx → EReal} {x12 : S1x2048.Idx → EReal}
    {y0 : S16384x2048.Idx → EReal} {y1 : S2048x512.Idx → EReal} {y2 y3 y4 : S512.Idx → EReal}
    {y5 : S512x256.Idx → EReal} {y6 : S256.Idx → EReal} {y7 : S256x16.Idx → EReal} {y8 : S16.Idx → EReal}
    {y9 : S2048x512.Idx → EReal} {y10 : S512.Idx → EReal} {y11 : S512x2048.Idx → EReal} {y12 : S2048.Idx → EReal}
    {y13 : S16.Idx → EReal} {r : Fin 1024} {q : Fin 16384}
    (h0 : ∀ k, x0 (ix2 r k) = y0 (ix2 q k)) (h1 : ∀ r k, x1 (ix2 r k) = y1 (ix2 r k)) (h2 : ∀ k, x2 (ix2 0 k) = y2 (ix1 k))
    (h3 : ∀ k, x3 (ix2 0 k) = y3 (ix1 k)) (h4 : ∀ k, x4 (ix2 0 k) = y4 (ix1 k)) (h5 : ∀ r k, x5 (ix2 r k) = y5 (ix2 r k))
    (h6 : ∀ k, x6 (ix2 0 k) = y6 (ix1 k)) (h7 : ∀ r k, x7 (ix2 r k) = y7 (ix2 r k))
    (h8 : ∀ k, x8 (ix2 0 k) = sum2 (y8 (ix1 k)) (y13 (ix1 k))) (h9 : ∀ r k, x9 (ix2 r k) = y9 (ix2 r k))
    (h10 : ∀ k, x10 (ix2 0 k) = y10 (ix1 k)) (h11 : ∀ r k, x11 (ix2 r k) = y11 (ix2 r k))
    (h12 : ∀ k, x12 (ix2 0 k) = y12 (ix1 k)) (n : Fin 2048) :
    gated (probs (row x0 r) (mat x1) (bias x2) (bias x3) (bias x4) (mat x5) (bias x6) (mat x7) (bias x8))
        (weights (row x0 r) (mat x9) (bias x10) (mat x11) (bias x12)) n
      = result y0 y1 y2 y3 y4 y5 y6 y7 y8 y9 y10 y11 y12 y13 q n := by
  unfold result
  rw [show row x0 r = row y0 q from funext fun k => by simpa only [ix1_eq_valueIdx, ix2_eq_valueIdx] using h0 k,
    show mat x1 = mat y1 from funext fun r => funext fun k => by simpa only [ix2_eq_valueIdx] using h1 r k,
    show bias x2 = vec y2 from funext fun k => by simpa only [ix1_eq_valueIdx, ix2_eq_valueIdx] using h2 k,
    show bias x3 = vec y3 from funext fun k => by simpa only [ix1_eq_valueIdx, ix2_eq_valueIdx] using h3 k,
    show bias x4 = vec y4 from funext fun k => by simpa only [ix1_eq_valueIdx, ix2_eq_valueIdx] using h4 k,
    show mat x5 = mat y5 from funext fun r => funext fun k => by simpa only [ix2_eq_valueIdx] using h5 r k,
    show bias x6 = vec y6 from funext fun k => by simpa only [ix1_eq_valueIdx, ix2_eq_valueIdx] using h6 k,
    show mat x7 = mat y7 from funext fun r => funext fun k => by simpa only [ix2_eq_valueIdx] using h7 r k,
    show bias x8 = fun j => vec y8 j + vec y13 j from funext fun k => by
      simpa only [ix1_eq_valueIdx, ix2_eq_valueIdx, sum2] using h8 k,
    show mat x9 = mat y9 from funext fun r => funext fun k => by simpa only [ix2_eq_valueIdx] using h9 r k,
    show bias x10 = vec y10 from funext fun k => by simpa only [ix1_eq_valueIdx, ix2_eq_valueIdx] using h10 k,
    show mat x11 = mat y11 from funext fun r => funext fun k => by simpa only [ix2_eq_valueIdx] using h11 r k,
    show bias x12 = vec y12 from funext fun k => by simpa only [ix1_eq_valueIdx, ix2_eq_valueIdx] using h12 k]

/-- The kernel's result array, from its argument arrays. -/
def whole (c : Dev nD) : S16384x2048.Idx → EReal := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (i 0) (i 1)

/-- Where row `r`, column `n` of point `t`'s block lies in the array. -/
theorem place (t : Fin cfg0.N) (r : Fin 1024) (n : Fin 2048) :
    ((View.whole main_v18).slice (win0_14.rect t)).emb (ix2 r n) = ix2 (at_ t r) n := by
  refine (idx2_of _ (at_ t r) n ?_ ?_).trans (ix2_eq_valueIdx _ _).symm <;> blk_simp [idx t, at_]

/-- Loading a block of rows whole. -/
theorem ld0 (x : Vec Ideal S1024x2048 .f32) : View.ld x r0_0 = x := View.ld_unit_zero (by decide) _ x

/-- Loading the first router matrix whole. -/
theorem ld1 (x : Vec Ideal S2048x512 .f32) : View.ld x r0_1 = x := View.ld_unit_zero (by decide) _ x

/-- Loading a router row whole. -/
theorem ld2 (x : Vec Ideal S1x512 .f32) : View.ld x r0_2 = x := View.ld_unit_zero (by decide) _ x

/-- Loading the second router matrix whole. -/
theorem ld5 (x : Vec Ideal S512x256 .f32) : View.ld x r0_5 = x := View.ld_unit_zero (by decide) _ x

/-- Loading the second router bias whole. -/
theorem ld6 (x : Vec Ideal S1x256 .f32) : View.ld x r0_6 = x := View.ld_unit_zero (by decide) _ x

/-- Loading the third router matrix whole. -/
theorem ld7 (x : Vec Ideal S256x16 .f32) : View.ld x r0_7 = x := View.ld_unit_zero (by decide) _ x

/-- Loading the third router bias whole. -/
theorem ld8 (x : Vec Ideal S1x16 .f32) : View.ld x r0_8 = x := View.ld_unit_zero (by decide) _ x

/-- The hidden rows as the body computes them from whole loads. -/
theorem pay26_eq (x0 : S1024x2048.Idx → EReal) (x1 : S2048x512.Idx → EReal) (x2 x3 x4 : S1x512.Idx → EReal)
    (x5 : S512x256.Idx → EReal) (x6 : S1x256.Idx → EReal) (x7 : S256x16.Idx → EReal) (x8 : S1x16.Idx → EReal)
    (x9 : S2048x512.Idx → EReal) (x10 : S1x512.Idx → EReal) (x11 : S512x2048.Idx → EReal) (x12 : S1x2048.Idx → EReal)
    (x13 : S16x2048.Idx → EReal) :
    k0_pay26 (F := Ideal) x0 x1 x2 x3 x4 x5 x6 x7 x8 x9 x10 x11 x12 x13 = hid x0 x1 x2 x3 x4 x5 x6 := by
  unfold k0_pay26 hid
  simp only [ld0, ld1, ld2, ld5, ld6]

/-- The group numbers as the body computes them. -/
theorem pay28_eq (x0 : S1024x2048.Idx → EReal) (x1 : S2048x512.Idx → EReal) (x2 x3 x4 : S1x512.Idx → EReal)
    (x5 : S512x256.Idx → EReal) (x6 : S1x256.Idx → EReal) (x7 : S256x16.Idx → EReal) (x8 : S1x16.Idx → EReal)
    (x9 : S2048x512.Idx → EReal) (x10 : S1x512.Idx → EReal) (x11 : S512x2048.Idx → EReal) (x12 : S1x2048.Idx → EReal)
    (x13 : S16x2048.Idx → EReal) :
    k0_pay28 (F := Ideal) x0 x1 x2 x3 x4 x5 x6 x7 x8 x9 x10 x11 x12 x13 = nums x0 x1 x2 x3 x4 x5 x6 x7 x8 := by
  unfold k0_pay28 nums
  rw [pay26_eq]
  simp only [ld7, ld8]

/-- The positions as the body computes them. -/
theorem pay27_eq (x0 : S1024x2048.Idx → EReal) (x1 : S2048x512.Idx → EReal) (x2 x3 x4 : S1x512.Idx → EReal)
    (x5 : S512x256.Idx → EReal) (x6 : S1x256.Idx → EReal) (x7 : S256x16.Idx → EReal) (x8 : S1x16.Idx → EReal)
    (x9 : S2048x512.Idx → EReal) (x10 : S1x512.Idx → EReal) (x11 : S512x2048.Idx → EReal) (x12 : S1x2048.Idx → EReal)
    (x13 : S16x2048.Idx → EReal) :
    k0_pay27 (F := Ideal) x0 x1 x2 x3 x4 x5 x6 x7 x8 x9 x10 x11 x12 x13 = pos := by
  unfold k0_pay27 pos
  rfl

/-- What a body run stores, at one place of its block, from the blocks it loads. -/
theorem out_at (x0 : S1024x2048.Idx → EReal) (x1 : S2048x512.Idx → EReal) (x2 x3 x4 : S1x512.Idx → EReal)
    (x5 : S512x256.Idx → EReal) (x6 : S1x256.Idx → EReal) (x7 : S256x16.Idx → EReal) (x8 : S1x16.Idx → EReal)
    (x9 : S2048x512.Idx → EReal) (x10 : S1x512.Idx → EReal) (x11 : S512x2048.Idx → EReal) (x12 : S1x2048.Idx → EReal)
    (x13 : S16x2048.Idx → EReal) (r : Fin 1024) (n : Fin 2048)
    (hE : ∀ j : Fin 16, x13 (ix2 j n) = if j = group n then 1 else 0) :
    out0_14 (F := Ideal) x0 x1 x2 x3 x4 x5 x6 x7 x8 x9 x10 x11 x12 x13 (ix2 r n)
      = gated (probs (row x0 r) (mat x1) (bias x2) (bias x3) (bias x4) (mat x5) (bias x6) (mat x7) (bias x8))
          (weights (row x0 r) (mat x9) (bias x10) (mat x11) (bias x12)) n := by
  frame_out
  rw [pay28_eq, pay27_eq, pay26_eq]
  exact block_at x0 x1 x2 x3 x4 x5 x6 x7 x8 x9 x10 x11 x12 x13 r n hE

/-- What a point leaves at one place of its block. -/
theorem point (c : Dev nD) (t : Fin cfg0.N) (r : Fin 1024) (n : Fin 2048) :
    out0_14 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (ix2 r n)
      = whole m c (ix2 (at_ t r) n) :=
  (out_at _ _ _ _ _ _ _ _ _ _ _ _ _ _ r n (fun j => rd13 m c t j n)).trans
    (result_of (rd0 m c t r) (rd1 m c t) (rd2 m c t) (rd3 m c t) (rd4 m c t) (rd5 m c t) (rd6 m c t) (rd7 m c t)
      (rd8 m c t) (rd9 m c t) (rd10 m c t) (rd11 m c t) (rd12 m c t) n)

/-- **The array the kernel leaves.** -/
theorem final (c : Dev nD) : (dats m 0 c).arrAt 14 cfg0.N = whole m c := by
  refine (dats m 0 c).arrAt_eq_of_covers 14 _ (by decide +kernel) fun t _ y => ?_
  blk_simp
  rw [after0_14]
  idx_vars y
  refine (point m c t _ _).trans ?_
  rw [place]

end Cert.KernelValue

end
-- ==== Proof.lean ====
/-
  The five claims: the three programs run, leave their arguments alone and end with every semaphore at zero; the kernel's
  idealization is the sanctioned one; and the kernel and the reference leave equal results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.RefSelect
public import proofs.«01_k».proof.Proof.KernelValue
public import Idealize.ShloMosaic.PureOps.IdealRules
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs and is quiet at the end. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants are the ones whose patterns the kernel holds. -/
theorem preserves : Cert.preserves_Kernel_KernelIdeal :=
  ⟨IdealRules.named_const.statement Cert.KernelIdeal.κ "rsqrt2" .f32 0x3F3504F3#32 (((Real.sqrt 2)⁻¹ : ℝ) : EReal) rfl,
    IdealRules.named_const.statement Cert.KernelIdeal.κ "sqrt2" .f32 0x3FB504F3#32 ((Real.sqrt 2 : ℝ) : EReal) rfl⟩

/-- The reference's result array, index by index, is the same function of the arguments as the kernel's. -/
theorem reference_whole (x0 : Cert.ReferenceIdeal.S16384x2048.Idx → EReal) (x1 : Cert.ReferenceIdeal.S2048x512.Idx → EReal)
    (x2 x3 x4 : Cert.ReferenceIdeal.S512.Idx → EReal) (x5 : Cert.ReferenceIdeal.S512x256.Idx → EReal)
    (x6 : Cert.ReferenceIdeal.S256.Idx → EReal) (x7 : Cert.ReferenceIdeal.S256x16.Idx → EReal)
    (x8 : Cert.ReferenceIdeal.S16.Idx → EReal) (x9 : Cert.ReferenceIdeal.S2048x512.Idx → EReal)
    (x10 : Cert.ReferenceIdeal.S512.Idx → EReal) (x11 : Cert.ReferenceIdeal.S512x2048.Idx → EReal)
    (x12 : Cert.ReferenceIdeal.S2048.Idx → EReal) (x13 : Cert.ReferenceIdeal.S16.Idx → EReal) :
    Cert.ReferenceIdeal.Read.val_main_v120 (F := Ideal) x0 x1 x2 x3 x4 x5 x6 x7 x8 x9 x10 x11 x12 x13
      = fun i => Cert.KernelValue.result x0 x1 x2 x3 x4 x5 x6 x7 x8 x9 x10 x11 x12 x13 (i 0) (i 1) := by
  funext i
  refine (congrArg _ (Cert.Spec.idx2_of i (i 0) (i 1) rfl rfl)).trans ?_
  exact Cert.RefValue.v120_at x0 x1 x2 x3 x4 x5 x6 x7 x8 x13 x9 x10 x11 x12 (i 0) (i 1)

/-- Equal arguments give equal results. -/
theorem result_congr {x0 y0 : Cert.KernelIdeal.S16384x2048.Idx → EReal} {x1 y1 : Cert.KernelIdeal.S2048x512.Idx → EReal}
    {x2 y2 x3 y3 x4 y4 : Cert.KernelIdeal.S512.Idx → EReal} {x5 y5 : Cert.KernelIdeal.S512x256.Idx → EReal}
    {x6 y6 : Cert.KernelIdeal.S256.Idx → EReal} {x7 y7 : Cert.KernelIdeal.S256x16.Idx → EReal}
    {x8 y8 : Cert.KernelIdeal.S16.Idx → EReal} {x9 y9 : Cert.KernelIdeal.S2048x512.Idx → EReal}
    {x10 y10 : Cert.KernelIdeal.S512.Idx → EReal} {x11 y11 : Cert.KernelIdeal.S512x2048.Idx → EReal}
    {x12 y12 : Cert.KernelIdeal.S2048.Idx → EReal} {x13 y13 : Cert.KernelIdeal.S16.Idx → EReal}
    (h0 : x0 = y0) (h1 : x1 = y1) (h2 : x2 = y2) (h3 : x3 = y3) (h4 : x4 = y4) (h5 : x5 = y5) (h6 : x6 = y6)
    (h7 : x7 = y7) (h8 : x8 = y8) (h9 : x9 = y9) (h10 : x10 = y10) (h11 : x11 = y11) (h12 : x12 = y12) (h13 : x13 = y13)
    (r : Fin 16384) (n : Fin 2048) :
    Cert.KernelValue.result x0 x1 x2 x3 x4 x5 x6 x7 x8 x9 x10 x11 x12 x13 r n
      = Cert.KernelValue.result y0 y1 y2 y3 y4 y5 y6 y7 y8 y9 y10 y11 y12 y13 r n := by
  subst h0 h1 h2 h3 h4 h5 h6 h7 h8 h9 h10 h11 h12 h13
  rfl

/-- **The kernel and the reference leave equal results.** -/
theorem algebraic : Cert.algebraic_KernelIdeal_ReferenceIdeal := by
  intro m ρ m' ρ' _ hagree
  refine ⟨fun c => Cert.KernelValue.whole m c, ?_, ?_⟩
  · exact (θ_run Cert.KernelIdeal.defs _ _).mono
      (fun _ h c => ⟨(h c).1.trans (Cert.KernelValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    refine (Cert.ReferenceIdeal.Read.val_main_v120_eq (StableHlo.launchContents m' c)).trans ?_
    refine (reference_whole _ _ _ _ _ _ _ _ _ _ _ _ _ _).trans (funext fun i => ?_)
    exact result_congr h0 h1 h2 h3 h4 h5 h6 h7 h8 h9 h10 h11 h12 h13 (i 0) (i 1)

/-- **Everything claimed.** -/
theorem claim : Cert.Claim := ⟨Cert.Kernel.Gen.facts, Cert.KernelIdeal.Gen.facts, Cert.ReferenceIdeal.Gen.facts,
  frame_p, frame_pi, frame_ri, preserves, algebraic⟩

end Cert.Proof

end
